-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_CombineFinal (m : (ℓ : Loc Cert.CombineFinal.nD Cert.CombineFinal.τ Cert.CombineFinal.sig) → Buf (Elt Bits) ℓ) : Prop :=
  True

def Pre_CombineFinalIdeal (m : (ℓ : Loc Cert.CombineFinalIdeal.nD Cert.CombineFinalIdeal.τ Cert.CombineFinalIdeal.sig) → Buf (Elt Ideal) ℓ) : Prop :=
  True

def Pre_CombineFinalReferenceIdeal (m : (ℓ : Loc Cert.CombineFinalReferenceIdeal.nD Cert.CombineFinalReferenceIdeal.τ Cert.CombineFinalReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_keys [hPre_finite_keys : Cert.Pre_finite_keys.Facts] (m : (ℓ : Loc Cert.PostIdeal.nD Cert.PostIdeal.τ Cert.PostIdeal.sig) → Buf (Elt Ideal) ℓ) : Prop :=
  ∀ c : Dev Cert.PostIdeal.nD,
    (Cert.Pre_finite_keys.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite_keys [hPre_finite_keys : Cert.Pre_finite_keys.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite_keys.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_CombineFinal [hCombineFinal : Cert.CombineFinal.Facts] : Prop :=
  ∀ (m : (ℓ : Loc Cert.CombineFinal.nD Cert.CombineFinal.τ Cert.CombineFinal.sig) → Buf (Elt Bits) ℓ) (g : Dev Cert.CombineFinal.nD → PrngReg), Pre_CombineFinal m →
    θ_run (Cert.CombineFinal.defs (F := Bits)) (onTc (τ := Cert.CombineFinal.τ) (Cert.CombineFinal.main (F := Bits))) ⟨m, fun _ => 0, g⟩ (fun r => (∀ c : Dev Cert.CombineFinal.nD,
      r.2.mem ((c.tc : Thread Cert.CombineFinal.nD Cert.CombineFinal.τ).loc Cert.CombineFinal.main_arg0) = m ((c.tc : Thread Cert.CombineFinal.nD Cert.CombineFinal.τ).loc Cert.CombineFinal.main_arg0)
      ∧ r.2.mem ((c.tc : Thread Cert.CombineFinal.nD Cert.CombineFinal.τ).loc Cert.CombineFinal.main_arg1) = m ((c.tc : Thread Cert.CombineFinal.nD Cert.CombineFinal.τ).loc Cert.CombineFinal.main_arg1)
      ∧ r.2.mem ((c.tc : Thread Cert.CombineFinal.nD Cert.CombineFinal.τ).loc Cert.CombineFinal.main_arg2) = m ((c.tc : Thread Cert.CombineFinal.nD Cert.CombineFinal.τ).loc Cert.CombineFinal.main_arg2)
      ∧ r.2.mem ((c.tc : Thread Cert.CombineFinal.nD Cert.CombineFinal.τ).loc Cert.CombineFinal.main_arg3) = m ((c.tc : Thread Cert.CombineFinal.nD Cert.CombineFinal.τ).loc Cert.CombineFinal.main_arg3))
      ∧ r.2.sem = fun _ => 0)

def quiescent_CombineFinalIdeal [hCombineFinalIdeal : Cert.CombineFinalIdeal.Facts] : Prop :=
  ∀ (m : (ℓ : Loc Cert.CombineFinalIdeal.nD Cert.CombineFinalIdeal.τ Cert.CombineFinalIdeal.sig) → Buf (Elt Ideal) ℓ) (g : Dev Cert.CombineFinalIdeal.nD → PrngReg), Pre_CombineFinalIdeal m →
    θ_run (Cert.CombineFinalIdeal.defs (F := Ideal)) (onTc (τ := Cert.CombineFinalIdeal.τ) (Cert.CombineFinalIdeal.main (F := Ideal))) ⟨m, fun _ => 0, g⟩ (fun r => (∀ c : Dev Cert.CombineFinalIdeal.nD,
      r.2.mem ((c.tc : Thread Cert.CombineFinalIdeal.nD Cert.CombineFinalIdeal.τ).loc Cert.CombineFinalIdeal.main_arg0) = m ((c.tc : Thread Cert.CombineFinalIdeal.nD Cert.CombineFinalIdeal.τ).loc Cert.CombineFinalIdeal.main_arg0)
      ∧ r.2.mem ((c.tc : Thread Cert.CombineFinalIdeal.nD Cert.CombineFinalIdeal.τ).loc Cert.CombineFinalIdeal.main_arg1) = m ((c.tc : Thread Cert.CombineFinalIdeal.nD Cert.CombineFinalIdeal.τ).loc Cert.CombineFinalIdeal.main_arg1)
      ∧ r.2.mem ((c.tc : Thread Cert.CombineFinalIdeal.nD Cert.CombineFinalIdeal.τ).loc Cert.CombineFinalIdeal.main_arg2) = m ((c.tc : Thread Cert.CombineFinalIdeal.nD Cert.CombineFinalIdeal.τ).loc Cert.CombineFinalIdeal.main_arg2)
      ∧ r.2.mem ((c.tc : Thread Cert.CombineFinalIdeal.nD Cert.CombineFinalIdeal.τ).loc Cert.CombineFinalIdeal.main_arg3) = m ((c.tc : Thread Cert.CombineFinalIdeal.nD Cert.CombineFinalIdeal.τ).loc Cert.CombineFinalIdeal.main_arg3))
      ∧ r.2.sem = fun _ => 0)

def quiescent_CombineFinalReferenceIdeal [hCombineFinalReferenceIdeal : Cert.CombineFinalReferenceIdeal.Facts] : Prop :=
  ∀ (m : (ℓ : Loc Cert.CombineFinalReferenceIdeal.nD Cert.CombineFinalReferenceIdeal.τ Cert.CombineFinalReferenceIdeal.sig) → Buf (Elt Ideal) ℓ) (g : Dev Cert.CombineFinalReferenceIdeal.nD → PrngReg), Pre_CombineFinalReferenceIdeal m →
    θ_run (Cert.CombineFinalReferenceIdeal.defs (F := Ideal)) (onTc (τ := Cert.CombineFinalReferenceIdeal.τ) (Cert.CombineFinalReferenceIdeal.main (F := Ideal))) ⟨m, fun _ => 0, g⟩ (fun r => (∀ c : Dev Cert.CombineFinalReferenceIdeal.nD,
      r.2.mem ((c.tc : Thread Cert.CombineFinalReferenceIdeal.nD Cert.CombineFinalReferenceIdeal.τ).loc Cert.CombineFinalReferenceIdeal.main_arg0) = m ((c.tc : Thread Cert.CombineFinalReferenceIdeal.nD Cert.CombineFinalReferenceIdeal.τ).loc Cert.CombineFinalReferenceIdeal.main_arg0)
      ∧ r.2.mem ((c.tc : Thread Cert.CombineFinalReferenceIdeal.nD Cert.CombineFinalReferenceIdeal.τ).loc Cert.CombineFinalReferenceIdeal.main_arg1) = m ((c.tc : Thread Cert.CombineFinalReferenceIdeal.nD Cert.CombineFinalReferenceIdeal.τ).loc Cert.CombineFinalReferenceIdeal.main_arg1)
      ∧ r.2.mem ((c.tc : Thread Cert.CombineFinalReferenceIdeal.nD Cert.CombineFinalReferenceIdeal.τ).loc Cert.CombineFinalReferenceIdeal.main_arg2) = m ((c.tc : Thread Cert.CombineFinalReferenceIdeal.nD Cert.CombineFinalReferenceIdeal.τ).loc Cert.CombineFinalReferenceIdeal.main_arg2)
      ∧ r.2.mem ((c.tc : Thread Cert.CombineFinalReferenceIdeal.nD Cert.CombineFinalReferenceIdeal.τ).loc Cert.CombineFinalReferenceIdeal.main_arg3) = m ((c.tc : Thread Cert.CombineFinalReferenceIdeal.nD Cert.CombineFinalReferenceIdeal.τ).loc Cert.CombineFinalReferenceIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostIdeal_pre_finite_keys [hPostIdeal : Cert.PostIdeal.Facts] [hPre_finite_keys : Cert.Pre_finite_keys.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_keys m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_PostReferenceIdeal_pre_finite_keys [hPostReferenceIdeal : Cert.PostReferenceIdeal.Facts] [hPre_finite_keys : Cert.Pre_finite_keys.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite_keys m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v14) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v14) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v14) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_CombineFinal_CombineFinalIdeal : Prop :=
  True

def algebraic_CombineFinalIdeal_CombineFinalReferenceIdeal [hCombineFinalIdeal : Cert.CombineFinalIdeal.Facts] [hCombineFinalReferenceIdeal : Cert.CombineFinalReferenceIdeal.Facts] : Prop :=
  ∀ (m : (ℓ : Loc Cert.CombineFinalIdeal.nD Cert.CombineFinalIdeal.τ Cert.CombineFinalIdeal.sig) → Buf (Elt Ideal) ℓ) (g : Dev Cert.CombineFinalIdeal.nD → PrngReg)
    (m' : (ℓ : Loc Cert.CombineFinalReferenceIdeal.nD Cert.CombineFinalReferenceIdeal.τ Cert.CombineFinalReferenceIdeal.sig) → Buf (Elt Ideal) ℓ) (g' : Dev Cert.CombineFinalReferenceIdeal.nD → PrngReg), Pre_CombineFinalIdeal m →
    (∀ c : Dev Cert.CombineFinalIdeal.nD,
      m' ((c.tc : Thread Cert.CombineFinalReferenceIdeal.nD Cert.CombineFinalReferenceIdeal.τ).loc Cert.CombineFinalReferenceIdeal.main_arg0) = m ((c.tc : Thread Cert.CombineFinalIdeal.nD Cert.CombineFinalIdeal.τ).loc Cert.CombineFinalIdeal.main_arg0)
      ∧ m' ((c.tc : Thread Cert.CombineFinalReferenceIdeal.nD Cert.CombineFinalReferenceIdeal.τ).loc Cert.CombineFinalReferenceIdeal.main_arg1) = m ((c.tc : Thread Cert.CombineFinalIdeal.nD Cert.CombineFinalIdeal.τ).loc Cert.CombineFinalIdeal.main_arg1)
      ∧ m' ((c.tc : Thread Cert.CombineFinalReferenceIdeal.nD Cert.CombineFinalReferenceIdeal.τ).loc Cert.CombineFinalReferenceIdeal.main_arg2) = m ((c.tc : Thread Cert.CombineFinalIdeal.nD Cert.CombineFinalIdeal.τ).loc Cert.CombineFinalIdeal.main_arg2)
      ∧ m' ((c.tc : Thread Cert.CombineFinalReferenceIdeal.nD Cert.CombineFinalReferenceIdeal.τ).loc Cert.CombineFinalReferenceIdeal.main_arg3) = m ((c.tc : Thread Cert.CombineFinalIdeal.nD Cert.CombineFinalIdeal.τ).loc Cert.CombineFinalIdeal.main_arg3)) →
    ∃ (v0 : (c : Dev Cert.CombineFinalIdeal.nD) → Buf (Elt Ideal) ((c.tc : Thread Cert.CombineFinalIdeal.nD Cert.CombineFinalIdeal.τ).loc Cert.CombineFinalIdeal.main_v1)),
      θ_run (Cert.CombineFinalIdeal.defs (F := Ideal)) (onTc (τ := Cert.CombineFinalIdeal.τ) (Cert.CombineFinalIdeal.main (F := Ideal))) ⟨m, fun _ => 0, g⟩ (fun r => ∀ c : Dev Cert.CombineFinalIdeal.nD,
          r.2.mem ((c.tc : Thread Cert.CombineFinalIdeal.nD Cert.CombineFinalIdeal.τ).loc Cert.CombineFinalIdeal.main_v1) = v0 c
          ∧ r.2.mem ((c.tc : Thread Cert.CombineFinalIdeal.nD Cert.CombineFinalIdeal.τ).loc Cert.CombineFinalIdeal.main_arg0) = m ((c.tc : Thread Cert.CombineFinalIdeal.nD Cert.CombineFinalIdeal.τ).loc Cert.CombineFinalIdeal.main_arg0)
          ∧ r.2.mem ((c.tc : Thread Cert.CombineFinalIdeal.nD Cert.CombineFinalIdeal.τ).loc Cert.CombineFinalIdeal.main_arg1) = m ((c.tc : Thread Cert.CombineFinalIdeal.nD Cert.CombineFinalIdeal.τ).loc Cert.CombineFinalIdeal.main_arg1)
          ∧ r.2.mem ((c.tc : Thread Cert.CombineFinalIdeal.nD Cert.CombineFinalIdeal.τ).loc Cert.CombineFinalIdeal.main_arg2) = m ((c.tc : Thread Cert.CombineFinalIdeal.nD Cert.CombineFinalIdeal.τ).loc Cert.CombineFinalIdeal.main_arg2)
          ∧ r.2.mem ((c.tc : Thread Cert.CombineFinalIdeal.nD Cert.CombineFinalIdeal.τ).loc Cert.CombineFinalIdeal.main_arg3) = m ((c.tc : Thread Cert.CombineFinalIdeal.nD Cert.CombineFinalIdeal.τ).loc Cert.CombineFinalIdeal.main_arg3))
      ∧ θ_run (Cert.CombineFinalReferenceIdeal.defs (F := Ideal)) (onTc (τ := Cert.CombineFinalReferenceIdeal.τ) (Cert.CombineFinalReferenceIdeal.main (F := Ideal))) ⟨m', fun _ => 0, g'⟩ (fun r => ∀ c : Dev Cert.CombineFinalReferenceIdeal.nD,
          r.2.mem ((c.tc : Thread Cert.CombineFinalReferenceIdeal.nD Cert.CombineFinalReferenceIdeal.τ).loc Cert.CombineFinalReferenceIdeal.main_v27) = v0 c
          ∧ r.2.mem ((c.tc : Thread Cert.CombineFinalReferenceIdeal.nD Cert.CombineFinalReferenceIdeal.τ).loc Cert.CombineFinalReferenceIdeal.main_arg0) = m' ((c.tc : Thread Cert.CombineFinalReferenceIdeal.nD Cert.CombineFinalReferenceIdeal.τ).loc Cert.CombineFinalReferenceIdeal.main_arg0)
          ∧ r.2.mem ((c.tc : Thread Cert.CombineFinalReferenceIdeal.nD Cert.CombineFinalReferenceIdeal.τ).loc Cert.CombineFinalReferenceIdeal.main_arg1) = m' ((c.tc : Thread Cert.CombineFinalReferenceIdeal.nD Cert.CombineFinalReferenceIdeal.τ).loc Cert.CombineFinalReferenceIdeal.main_arg1)
          ∧ r.2.mem ((c.tc : Thread Cert.CombineFinalReferenceIdeal.nD Cert.CombineFinalReferenceIdeal.τ).loc Cert.CombineFinalReferenceIdeal.main_arg2) = m' ((c.tc : Thread Cert.CombineFinalReferenceIdeal.nD Cert.CombineFinalReferenceIdeal.τ).loc Cert.CombineFinalReferenceIdeal.main_arg2)
          ∧ r.2.mem ((c.tc : Thread Cert.CombineFinalReferenceIdeal.nD Cert.CombineFinalReferenceIdeal.τ).loc Cert.CombineFinalReferenceIdeal.main_arg3) = m' ((c.tc : Thread Cert.CombineFinalReferenceIdeal.nD Cert.CombineFinalReferenceIdeal.τ).loc Cert.CombineFinalReferenceIdeal.main_arg3))

def preserves_Post_PostIdeal : Prop :=
  True

def algebraic_PostIdeal_PostReferenceIdeal_pre_finite_keys [hPostIdeal : Cert.PostIdeal.Facts] [hPostReferenceIdeal : Cert.PostReferenceIdeal.Facts] [hPre_finite_keys : Cert.Pre_finite_keys.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_finite_keys m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v4) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v43) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMemKv : Cert.MemKv.Facts) (hMemKvIdeal : Cert.MemKvIdeal.Facts) (hMemKvReferenceIdeal : Cert.MemKvReferenceIdeal.Facts) (hFfn : Cert.Ffn.Facts) (hFfnIdeal : Cert.FfnIdeal.Facts) (hFfnReferenceIdeal : Cert.FfnReferenceIdeal.Facts) (hCombine : Cert.Combine.Facts) (hCombineIdeal : Cert.CombineIdeal.Facts) (hCombineReferenceIdeal : Cert.CombineReferenceIdeal.Facts) (hCombineFinal : Cert.CombineFinal.Facts) (hCombineFinalIdeal : Cert.CombineFinalIdeal.Facts) (hCombineFinalReferenceIdeal : Cert.CombineFinalReferenceIdeal.Facts) (hPost : Cert.Post.Facts) (hPostIdeal : Cert.PostIdeal.Facts) (hPostReferenceIdeal : Cert.PostReferenceIdeal.Facts) (hPre_finite_scores : Cert.Pre_finite_scores.Facts) (hPre_finite_keys : Cert.Pre_finite_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjReferenceIdeal (hInProjReferenceIdeal := hInProjReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_CombineFinal (hCombineFinal := hCombineFinal)
    ∧ quiescent_CombineFinalIdeal (hCombineFinalIdeal := hCombineFinalIdeal)
    ∧ quiescent_CombineFinalReferenceIdeal (hCombineFinalReferenceIdeal := hCombineFinalReferenceIdeal)
    ∧ quiescent_Post (hPost := hPost)
    ∧ quiescent_PostIdeal (hPostIdeal := hPostIdeal)
    ∧ quiescent_PostIdeal_pre_finite_keys (hPostIdeal := hPostIdeal) (hPre_finite_keys := hPre_finite_keys)
    ∧ quiescent_PostReferenceIdeal (hPostReferenceIdeal := hPostReferenceIdeal)
    ∧ quiescent_PostReferenceIdeal_pre_finite_keys (hPostReferenceIdeal := hPostReferenceIdeal) (hPre_finite_keys := hPre_finite_keys)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjReferenceIdeal (hInProjIdeal := hInProjIdeal) (hInProjReferenceIdeal := hInProjReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Ffn_FfnIdeal
    ∧ algebraic_FfnIdeal_FfnReferenceIdeal (hFfnIdeal := hFfnIdeal) (hFfnReferenceIdeal := hFfnReferenceIdeal)
    ∧ preserves_Combine_CombineIdeal
    ∧ algebraic_CombineIdeal_CombineReferenceIdeal (hCombineIdeal := hCombineIdeal) (hCombineReferenceIdeal := hCombineReferenceIdeal)
    ∧ preserves_CombineFinal_CombineFinalIdeal
    ∧ algebraic_CombineFinalIdeal_CombineFinalReferenceIdeal (hCombineFinalIdeal := hCombineFinalIdeal) (hCombineFinalReferenceIdeal := hCombineFinalReferenceIdeal)
    ∧ preserves_Post_PostIdeal
    ∧ algebraic_PostIdeal_PostReferenceIdeal_pre_finite_keys (hPostIdeal := hPostIdeal) (hPostReferenceIdeal := hPostReferenceIdeal) (hPre_finite_keys := hPre_finite_keys)
-- ==== Pre_finite_keys.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S4096x2048 : Shape := ⟨2, ![4096, 2048]⟩
abbrev S4096x1024 : Shape := ⟨2, ![4096, 1024]⟩
abbrev S_ : Shape := ⟨0, ![]⟩

class Facts : Prop where
  slices_S4096x2048_S4096x1024_0_0 : S4096x2048.Slices ![0, 0] S4096x1024
  bitsLt_bf16_f32 : FTy.bits .bf16 < FTy.bits .f32
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S65536x1024 .f32) (main_arg1 : FVec F S65536x512 .bf16) (main_arg2 : FVec F S65536x512 .bf16) (main_arg3 : FVec F S1024x1024 .f32) (main_arg4 : FVec F S1024 .f32) (main_arg5 : FVec F S1024x1024 .f32) (main_arg6 : FVec F S4096x2048 .bf16) (main_arg7 : FVec F S1024x1024 .f32) : IVec S_ 1 :=
  let main_v0 : FVec F S4096x1024 .bf16 := (extractStridedSlice S4096x1024 ![0, 0] · slices_S4096x2048_S4096x1024_0_0) main_arg6
  let main_v1 : FVec F S4096x1024 .f32 := (extf .f32 · bitsLt_bf16_f32) main_v0
  let main_v2 : FVec F S1024 .f32 := Host.absf main_arg4
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1024x1024 .f32 := Host.absf main_arg5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v5 main_v9
  let main_v11 : FVec F S4096x1024 .f32 := Host.absf main_v1
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  main_v15
-- ==== Pre_finite_scores.lean ====
abbrev S65536x3584 : Shape := ⟨2, ![65536, 3584]⟩
abbrev S8x257 : Shape := ⟨2, ![8, 257]⟩
abbrev S512 : Shape := ⟨1, ![512]⟩
abbrev S65536x1024 : Shape := ⟨2, ![65536, 1024]⟩
abbrev S_ : Shape := ⟨0, ![]⟩

class Facts : Prop where
  slices_S65536x3584_S65536x1024_0_2048 : S65536x3584.Slices ![0, 2048] S65536x1024
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S65536x3584 .bf16) (main_arg1 : FVec F S8x257 .f32) (main_arg2 : FVec F S512 .f32) : IVec S_ 1 :=
  let main_v0 : FVec F S65536x1024 .bf16 := (extractStridedSlice S65536x1024 ![0, 2048] · slices_S65536x3584_S65536x1024_0_2048) main_arg0
  let main_v1 : FVec F S65536x1024 .f32 := (extf .f32 · bitsLt_bf16_f32) main_v0
  let main_v2 : FVec F S65536x1024 .f32 := Host.absf main_v1
  let main_cst : FVec F S_ .f32 := constant S_ .f32 0x7F800000#32
  let main_v3 : FVec F S65536x1024 .f32 := broadcastInDim S65536x1024 ![] bcast_S_S65536x1024 main_cst
  let main_v4 : IVec S65536x1024 1 := cmpf .olt main_v2 main_v3
  let main_c : IVec S_ 1 := constantI S_ 1 1#1
  let main_v5 : IVec S_ 1 := (fun x v => Host.reduce IntOp.andi x v reducesTo_S65536x1024_S_d0_1 h_S_) main_v4 main_c
  let main_v6 : FVec F S8x257 .f32 := Host.absf main_arg1
  let main_cst_0 : FVec F S_ .f32 := constant S_ .f32 0x7F800000#32
  let main_v7 : FVec F S8x257 .f32 := broadcastInDim S8x257 ![] bcast_S_S8x257 main_cst_0
  let main_v8 : IVec S8x257 1 := cmpf .olt main_v6 main_v7
  let main_c_1 : IVec S_ 1 := constantI S_ 1 1#1
  let main_v9 : IVec S_ 1 := (fun x v => Host.reduce IntOp.andi x v reducesTo_S8x257_S_d0_1 h_S_) main_v8 main_c_1
  let main_v10 : IVec S_ 1 := andi main_v5 main_v9
  main_v10
-- ==== Kernel.lean ====
abbrev S65536x3584 : Shape := ⟨2, ![65536, 3584]⟩
abbrev S8x257 : Shape := ⟨2, ![8, 257]⟩
abbrev S512 : Shape := ⟨1, ![512]⟩
abbrev S1023 : Shape := ⟨1, ![1023]⟩
abbrev S_ : Shape := ⟨0, ![]⟩
abbrev S1023x1 : Shape := ⟨2, ![1023, 1]⟩
abbrev S8x1023 : Shape := ⟨2, ![8, 1023]⟩
abbrev S1x8x1x1023 : Shape := ⟨4, ![1, 8, 1, 1023]⟩
abbrev S1x8x256x1023 : Shape := ⟨4, ![1, 8, 256, 1023]⟩
abbrev S8x261888 : Shape := ⟨2, ![8, 261888]⟩
abbrev S8x261632 : Shape := ⟨2, ![8, 261632]⟩
abbrev S8x256x1022 : Shape := ⟨3, ![8, 256, 1022]⟩
abbrev S8x256x768 : Shape := ⟨3, ![8, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S4x512x768 : Shape := ⟨3, ![4, 512, 768]⟩
abbrev S1x512 : Shape := ⟨2, ![1, 512]⟩
abbrev S65536x512 : Shape := ⟨2, ![65536, 512]⟩
abbrev S1024x512 : Shape := ⟨2, ![1024, 512]⟩
abbrev S4096x512 : Shape := ⟨2, ![4096, 512]⟩
abbrev S256x512 : Shape := ⟨2, ![256, 512]⟩
abbrev S256x128 : Shape := ⟨2, ![256, 128]⟩
abbrev S512x128 : Shape := ⟨2, ![512, 128]⟩
abbrev S512x256 : Shape := ⟨2, ![512, 256]⟩
abbrev S1x512x256 : Shape := ⟨3, ![1, 512, 256]⟩
abbrev S512x1 : Shape := ⟨2, ![512, 1]⟩
abbrev S256x256 : Shape := ⟨2, ![256, 256]⟩
abbrev S512x512 : Shape := ⟨2, ![512, 512]⟩
abbrev S1x512x512 : Shape := ⟨3, ![1, 512, 512]⟩
abbrev S768x512 : Shape := ⟨2, ![768, 512]⟩
abbrev S768x128 : Shape := ⟨2, ![768, 128]⟩
abbrev S512x768 : Shape := ⟨2, ![512, 768]⟩
abbrev S1x512x768 : Shape := ⟨3, ![1, 512, 768]⟩
abbrev S768x256 : Shape := ⟨2, ![768, 256]⟩

abbrev nBuf : Space → Nat
  | .hbm => 79
  | .vmem => 10
  | .smem => 0
  | _ => 0

abbrev bufTy : (tb : Table) → Fin (tcTables nBuf tb) → BufTy
  | .hbm, ⟨0, _⟩ => ⟨S65536x3584, .bf16⟩
  | .hbm, ⟨1, _⟩ => ⟨S8x257, .f32⟩
  | .hbm, ⟨2, _⟩ => ⟨S512, .f32⟩
  | .hbm, ⟨3, _⟩ => ⟨S1023, .i32⟩
  | .hbm, ⟨4, _⟩ => ⟨S1023, .i1⟩
  | .hbm, ⟨5, _⟩ => ⟨S_, .i32⟩
  | .hbm, ⟨6, _⟩ => ⟨S1023, .i32⟩
  | .hbm, ⟨7, _⟩ => ⟨S1023, .i32⟩
  | .hbm, ⟨8, _⟩ => ⟨S1023, .i32⟩
  | .hbm, ⟨9, _⟩ => ⟨S1023x1, .i32⟩
  | .hbm, ⟨10, _⟩ => ⟨S8x1023, .f32⟩
  | .hbm, ⟨11, _⟩ => ⟨S1x8x1x1023, .f32⟩
  | .hbm, ⟨12, _⟩ => ⟨S1x8x256x1023, .f32⟩
  | .hbm, ⟨13, _⟩ => ⟨S8x261888, .f32⟩
  | .hbm, ⟨14, _⟩ => ⟨S8x261632, .f32⟩
  | .hbm, ⟨15, _⟩ => ⟨S8x256x1022, .f32⟩
  | .hbm, ⟨16, _⟩ => ⟨S8x256x768, .f32⟩
  | .hbm, ⟨17, _⟩ => ⟨S256, .i32⟩
  | .hbm, ⟨18, _⟩ => ⟨S256x1, .i32⟩
  | .hbm, ⟨19, _⟩ => ⟨S768, .i32⟩
  | .hbm, ⟨20, _⟩ => ⟨S1x768, .i32⟩
  | .hbm, ⟨21, _⟩ => ⟨S_, .i32⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S256x1, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i1⟩
  | .hbm, ⟨34, _⟩ => ⟨S256x1, .i1⟩
  | .hbm, ⟨35, _⟩ => ⟨S_, .i32⟩
  | .hbm, ⟨36, _⟩ => ⟨S256x1, .i32⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S_, .i32⟩
  | .hbm, ⟨43, _⟩ => ⟨S_, .i32⟩
  | .hbm, ⟨44, _⟩ => ⟨S1x768, .i32⟩
  | .hbm, ⟨45, _⟩ => ⟨S1x768, .i32⟩
  | .hbm, ⟨46, _⟩ => ⟨S1x768, .i32⟩
  | .hbm, ⟨47, _⟩ => ⟨S_, .i32⟩
  | .hbm, ⟨48, _⟩ => ⟨S1x768, .i32⟩
  | .hbm, ⟨49, _⟩ => ⟨S1x768, .i1⟩
  | .hbm, ⟨50, _⟩ => ⟨S1x768, .i32⟩
  | .hbm, ⟨51, _⟩ => ⟨S1x768, .i32⟩
  | .hbm, ⟨52, _⟩ => ⟨S_, .i32⟩
  | .hbm, ⟨53, _⟩ => ⟨S1x768, .i32⟩
  | .hbm, ⟨54, _⟩ => ⟨S1x768, .i1⟩
  | .hbm, ⟨55, _⟩ => ⟨S1x768, .i1⟩
  | .hbm, ⟨56, _⟩ => ⟨S_, .i32⟩
  | .hbm, ⟨57, _⟩ => ⟨S1x768, .i32⟩
  | .hbm, ⟨58, _⟩ => ⟨S1x768, .i32⟩
  | .hbm, ⟨59, _⟩ => ⟨S1x768, .i32⟩
  | .hbm, ⟨60, _⟩ => ⟨S256x768, .i32⟩
  | .hbm, ⟨61, _⟩ => ⟨S256x768, .i32⟩
  | .hbm, ⟨62, _⟩ => ⟨S256x768, .i32⟩
  | .hbm, ⟨63, _⟩ => ⟨S_, .i32⟩
  | .hbm, ⟨64, _⟩ => ⟨S256x768, .i32⟩
  | .hbm, ⟨65, _⟩ => ⟨S256x768, .i1⟩
  | .hbm, ⟨66, _⟩ => ⟨S_, .i32⟩
  | .hbm, ⟨67, _⟩ => ⟨S256x768, .i32⟩
  | .hbm, ⟨68, _⟩ => ⟨S256x768, .i1⟩
  | .hbm, ⟨69, _⟩ => ⟨S256x768, .i1⟩
  | .hbm, ⟨70, _⟩ => ⟨S1x256x768, .i1⟩
  | .hbm, ⟨71, _⟩ => ⟨S_, .f32⟩
  | .hbm, ⟨72, _⟩ => ⟨S_, .f32⟩
  | .hbm, ⟨73, _⟩ => ⟨S8x256x768, .i1⟩
  | .hbm, ⟨74, _⟩ => ⟨S8x256x768, .f32⟩
  | .hbm, ⟨75, _⟩ => ⟨S8x256x768, .f32⟩
  | .hbm, ⟨76, _⟩ => ⟨S4x512x768, .f32⟩
  | .hbm, ⟨77, _⟩ => ⟨S1x512, .f32⟩
  | .hbm, ⟨78, _⟩ => ⟨S65536x512, .bf16⟩
  | .local _ .vmem, ⟨0, _⟩ => ⟨S1024x512, .bf16⟩
  | .local _ .vmem, ⟨1, _⟩ => ⟨S1024x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4x512x768, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S65536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_v17 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_c_5 : Ref sig .tc := ⟨.hbm, 63, rfl⟩
abbrev main_v22 : Ref sig .tc := ⟨.hbm, 64, rfl⟩
abbrev main_v23 : Ref sig .tc := ⟨.hbm, 65, rfl⟩
abbrev main_c_6 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .sgt arg1 c0_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg1 : BitVec 32 := BitVec.ofNat 32 (i 1).val
  let c4_i32 : BitVec 32 := 4#32
  let v8 : BitVec 32 := Scalar.muli arg1 c4_i32
  let c0_i32_4 : BitVec 32 := 0#32
  let v9 : BitVec 32 := Scalar.addi v8 c0_i32_4
  let c256_i32 : BitVec 32 := 256#32
  let v10 : BitVec 32 := Scalar.muli v9 c256_i32
  let c512_i32 : BitVec 32 := 512#32
  let v11 : BitVec 32 := Scalar.subi v10 c512_i32
  v11
def k0_off1 (i : grid0.Coords) (c0_i32_4 : BitVec 32) : Fin 2 → Nat :=
  let arg1 : BitVec 32 := BitVec.ofNat 32 (i 1).val
  let c4_i32 : BitVec 32 := 4#32
  let v8 : BitVec 32 := Scalar.muli arg1 c4_i32
  let v9 : BitVec 32 := Scalar.addi v8 c0_i32_4
  let c256_i32 : BitVec 32 := 256#32
  let v10 : BitVec 32 := Scalar.muli v9 c256_i32
  let c512_i32 : BitVec 32 := 512#32
  let v11 : BitVec 32 := Scalar.subi v10 c512_i32
  let v12 : BitVec 32 := v11
  let v14 : Index := Scalar.indexCast v12
  let c0_7 : Index := 0#32
  ![v14.toNat, 0]
def k0_mult2 (i : grid0.Coords) : BitVec 32 :=
  let arg1 : BitVec 32 := BitVec.ofNat 32 (i 1).val
  let c4_i32_44 : BitVec 32 := 4#32
  let v149 : BitVec 32 := Scalar.muli arg1 c4_i32_44
  let c1_i32 : BitVec 32 := 1#32
  let v150 : BitVec 32 := Scalar.addi v149 c1_i32
  let c256_i32_45 : BitVec 32 := 256#32
  let v151 : BitVec 32 := Scalar.muli v150 c256_i32_45
  let c512_i32_46 : BitVec 32 := 512#32
  let v152 : BitVec 32 := Scalar.subi v151 c512_i32_46
  v152
def k0_mult3 (i : grid0.Coords) : BitVec 32 :=
  let arg1 : BitVec 32 := BitVec.ofNat 32 (i 1).val
  let c4_i32_90 : BitVec 32 := 4#32
  let v290 : BitVec 32 := Scalar.muli arg1 c4_i32_90
  let c2_i32 : BitVec 32 := 2#32
  let v291 : BitVec 32 := Scalar.addi v290 c2_i32
  let c256_i32_91 : BitVec 32 := 256#32
  let v292 : BitVec 32 := Scalar.muli v291 c256_i32_91
  let c512_i32_92 : BitVec 32 := 512#32
  let v293 : BitVec 32 := Scalar.subi v292 c512_i32_92
  v293
def k0_mult4 (i : grid0.Coords) : BitVec 32 :=
  let arg1 : BitVec 32 := BitVec.ofNat 32 (i 1).val
  let c4_i32_136 : BitVec 32 := 4#32
  let v431 : BitVec 32 := Scalar.muli arg1 c4_i32_136
  let c3_i32 : BitVec 32 := 3#32
  let v432 : BitVec 32 := Scalar.addi v431 c3_i32
  let c256_i32_137 : BitVec 32 := 256#32
  let v433 : BitVec 32 := Scalar.muli v432 c256_i32_137
  let c512_i32_138 : BitVec 32 := 512#32
  let v434 : BitVec 32 := Scalar.subi v433 c512_i32_138
  v434
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let c0_i32 : BitVec 32 := 0#32
  ![v1.toNat, c4_i32_0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== ReferenceIdeal.lean ====
abbrev S65536x3584 : Shape := ⟨2, ![65536, 3584]⟩
abbrev S8x257 : Shape := ⟨2, ![8, 257]⟩
abbrev S512 : Shape := ⟨1, ![512]⟩
abbrev S65536x512 : Shape := ⟨2, ![65536, 512]⟩
abbrev S16x4096x8x64 : Shape := ⟨4, ![16, 4096, 8, 64]⟩
abbrev S16x64x64x8x64 : Shape := ⟨5, ![16, 64, 64, 8, 64]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S16x4608x8x64 : Shape := ⟨4, ![16, 4608, 8, 64]⟩
abbrev S64x576x1 : Shape := ⟨3, ![64, 576, 1]⟩
abbrev S16x64x576x8x64 : Shape := ⟨5, ![16, 64, 576, 8, 64]⟩
abbrev S8x64x576 : Shape := ⟨3, ![8, 64, 576]⟩
abbrev S16x64x8x64x576 : Shape := ⟨5, ![16, 64, 8, 64, 576]⟩
abbrev S1x1x8x64x576 : Shape := ⟨5, ![1, 1, 8, 64, 576]⟩
abbrev S1x64x1x1x576 : Shape := ⟨5, ![1, 64, 1, 1, 576]⟩
abbrev S16x64x8x64 : Shape := ⟨4, ![16, 64, 8, 64]⟩
abbrev S16x64x8x64x1 : Shape := ⟨5, ![16, 64, 8, 64, 1]⟩
abbrev S16x64x8x64x64 : Shape := ⟨5, ![16, 64, 8, 64, 64]⟩
abbrev S16x4096x512 : Shape := ⟨3, ![16, 4096, 512]⟩
abbrev S16x4096 : Shape := ⟨2, ![16, 4096]⟩
abbrev S16x4096x1 : Shape := ⟨3, ![16, 4096, 1]⟩
abbrev S1x1x512 : Shape := ⟨3, ![1, 1, 512]⟩

abbrev nBuf : Space → Nat
  | .hbm => 138
  | .vmem => 0
  | .smem => 0
  | _ => 0

abbrev hbmTy0_0 (i : Nat) : BufTy := match i % 128 with
  | 0 => ⟨S65536x3584, .bf16⟩
  | 1 => ⟨S8x257, .f32⟩
  | 2 => ⟨S512, .f32⟩
  | 3 => ⟨S65536x512, .bf16⟩
  | 4 => ⟨S65536x512, .f32⟩
  | 5 => ⟨S16x4096x8x64, .f32⟩
  | 6 => ⟨S65536x512, .bf16⟩
  | 7 => ⟨S65536x512, .f32⟩
  | 8 => ⟨S16x4096x8x64, .f32⟩
  | 9 => ⟨S65536x512, .bf16⟩
  | 10 => ⟨S65536x512, .f32⟩
  | 11 => ⟨S16x4096x8x64, .f32⟩
  | 12 => ⟨S16x64x64x8x64, .f32⟩
  | 13 => ⟨S64, .i32⟩
  | 14 => ⟨S64x1, .i32⟩
  | 15 => ⟨S_, .i32⟩
  | 16 => ⟨S64x1, .i32⟩
  | 17 => ⟨S64x1, .i32⟩
  | 18 => ⟨S576, .i32⟩
  | 19 => ⟨S1x576, .i32⟩
  | 20 => ⟨S64x576, .i32⟩
  | 21 => ⟨S64x576, .i32⟩
  | 22 => ⟨S64x576, .i32⟩
  | 23 => ⟨S_, .i32⟩
  | 24 => ⟨S_, .f32⟩
  | 25 => ⟨S16x4608x8x64, .f32⟩
  | 26 => ⟨S_, .i32⟩
  | 27 => ⟨S64x576, .i32⟩
  | 28 => ⟨S64x576, .i1⟩
  | 29 => ⟨S_, .i32⟩
  | 30 => ⟨S64x576, .i32⟩
  | 31 => ⟨S64x576, .i32⟩
  | 32 => ⟨S64x576, .i32⟩
  | 33 => ⟨S64x576x1, .i32⟩
  | 34 => ⟨S16x64x576x8x64, .f32⟩
  | 35 => ⟨S_, .i32⟩
  | 36 => ⟨S_, .f32⟩
  | 37 => ⟨S16x4608x8x64, .f32⟩
  | 38 => ⟨S_, .i32⟩
  | 39 => ⟨S64x576, .i32⟩
  | 40 => ⟨S64x576, .i1⟩
  | 41 => ⟨S_, .i32⟩
  | 42 => ⟨S64x576, .i32⟩
  | 43 => ⟨S64x576, .i32⟩
  | 44 => ⟨S64x576, .i32⟩
  | 45 => ⟨S64x576x1, .i32⟩
  | 46 => ⟨S16x64x576x8x64, .f32⟩
  | 47 => ⟨S64, .i32⟩
  | 48 => ⟨S64x1, .i32⟩
  | 49 => ⟨S_, .i32⟩
  | 50 => ⟨S64x1, .i32⟩
  | 51 => ⟨S64x1, .i32⟩
  | 52 => ⟨S576, .i32⟩
  | 53 => ⟨S1x576, .i32⟩
  | 54 => ⟨S64x576, .i32⟩
  | 55 => ⟨S64x576, .i32⟩
  | 56 => ⟨S64x576, .i32⟩
  | 57 => ⟨S_, .i32⟩
  | 58 => ⟨S_, .i32⟩
  | 59 => ⟨S_, .i32⟩
  | 60 => ⟨S64x576, .i32⟩
  | 61 => ⟨S64x576, .i32⟩
  | 62 => ⟨S_, .i32⟩
  | 63 => ⟨S64x576, .i32⟩
  | 64 => ⟨S64x576, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i1⟩
  | 71 => ⟨S_, .i32⟩
  | 72 => ⟨S64x576, .i32⟩
  | 73 => ⟨S64x576, .i32⟩
  | 74 => ⟨S64x576, .i32⟩
  | 75 => ⟨S64x576x1, .i32⟩
  | 76 => ⟨S8x64x576, .f32⟩
  | 77 => ⟨S16x64x8x64x576, .f32⟩
  | 78 => ⟨S_, .f32⟩
  | 79 => ⟨S16x64x8x64x576, .f32⟩
  | 80 => ⟨S16x64x8x64x576, .f32⟩
  | 81 => ⟨S1x1x8x64x576, .f32⟩
  | 82 => ⟨S16x64x8x64x576, .f32⟩
  | 83 => ⟨S16x64x8x64x576, .f32⟩
  | 84 => ⟨S576, .i32⟩
  | 85 => ⟨S1x576, .i32⟩
  | 86 => ⟨S64, .i32⟩
  | 87 => ⟨S64x1, .i32⟩
  | 88 => ⟨S_, .i32⟩
  | 89 => ⟨S64x1, .i32⟩
  | 90 => ⟨S64x1, .i32⟩
  | 91 => ⟨S_, .i32⟩
  | 92 => ⟨S64x1, .i32⟩
  | 93 => ⟨S64x1, .i32⟩
  | 94 => ⟨S64x576, .i32⟩
  | 95 => ⟨S64x576, .i32⟩
  | 96 => ⟨S64x576, .i1⟩
  | 97 => ⟨S1x64x1x1x576, .i1⟩
  | 98 => ⟨S_, .f32⟩
  | 99 => ⟨S_, .f32⟩
  | 100 => ⟨S16x64x8x64x576, .i1⟩
  | 101 => ⟨S16x64x8x64x576, .f32⟩
  | 102 => ⟨S16x64x8x64x576, .f32⟩
  | 103 => ⟨S_, .f32⟩
  | 104 => ⟨S16x64x8x64, .f32⟩
  | 105 => ⟨S_, .f32⟩
  | 106 => ⟨S16x64x8x64, .f32⟩
  | 107 => ⟨S16x64x8x64, .f32⟩
  | 108 => ⟨S16x64x8x64x1, .f32⟩
  | 109 => ⟨S16x64x8x64x576, .f32⟩
  | 110 => ⟨S16x64x8x64x576, .f32⟩
  | 111 => ⟨S16x64x8x64x576, .f32⟩
  | 112 => ⟨S_, .f32⟩
  | 113 => ⟨S16x64x8x64, .f32⟩
  | 114 => ⟨S16x64x8x64x1, .f32⟩
  | 115 => ⟨S16x64x8x64x576, .f32⟩
  | 116 => ⟨S16x64x8x64x576, .f32⟩
  | 117 => ⟨S16x64x8x64x64, .f32⟩
  | 118 => ⟨S16x64x64x8x64, .f32⟩
  | 119 => ⟨S16x4096x512, .f32⟩
  | 120 => ⟨S16x4096x512, .f32⟩
  | 121 => ⟨S_, .f32⟩
  | 122 => ⟨S16x4096, .f32⟩
  | 123 => ⟨S16x4096x1, .f32⟩
  | 124 => ⟨S_, .f32⟩
  | 125 => ⟨S16x4096x1, .f32⟩
  | 126 => ⟨S16x4096x1, .f32⟩
  | 127 => ⟨S_, .f32⟩
  | _ => ⟨S65536x3584, .bf16⟩

abbrev hbmTy0_1 (i : Nat) : BufTy := match i % 128 with
  | 0 => ⟨S16x4096x1, .f32⟩
  | 1 => ⟨S16x4096x1, .f32⟩
  | 2 => ⟨S16x4096x1, .f32⟩
  | 3 => ⟨S16x4096x512, .f32⟩
  | 4 => ⟨S16x4096x512, .f32⟩
  | 5 => ⟨S1x1x512, .f32⟩
  | 6 => ⟨S16x4096x512, .f32⟩
  | 7 => ⟨S16x4096x512, .f32⟩
  | 8 => ⟨S65536x512, .f32⟩
  | 9 => ⟨S65536x512, .bf16⟩
  | _ => ⟨S65536x3584, .bf16⟩

abbrev hbmTy (i : Nat) : BufTy := match i / 128 with
  | 0 => hbmTy0_0 i
  | 1 => hbmTy0_1 i
  | _ => ⟨S65536x3584, .bf16⟩

abbrev bufTy : (tb : Table) → Fin (tcTables nBuf tb) → BufTy
  | .hbm, ⟨i, _⟩ => hbmTy i
  | _, _ => ⟨S65536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_call0_v0 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_call1_v0 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_c_8 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_18 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩

abbrev nD : Nat := 1
abbrev τ : Topo := Topo.v7x

variable {F : FTy → Type} [FloatOps F]
-- ==== InProj.lean ====
abbrev S65536x1024 : Shape := ⟨2, ![65536, 1024]⟩
abbrev S1024 : Shape := ⟨1, ![1024]⟩
abbrev S1024x3584 : Shape := ⟨2, ![1024, 3584]⟩
abbrev S1x1024 : Shape := ⟨2, ![1, 1024]⟩
abbrev S65536x3584 : Shape := ⟨2, ![65536, 3584]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3584, .f32⟩
  | .hbm, ⟨3, _⟩ => ⟨S1x1024, .f32⟩
  | .hbm, ⟨4, _⟩ => ⟨S1024x3584, .bf16⟩
  | .hbm, ⟨5, _⟩ => ⟨S65536x3584, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x3584, .bf16⟩
  | .local _ .vmem, ⟨5, _⟩ => ⟨S1024x3584, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjReferenceIdeal.lean ====
abbrev S65536x1024 : Shape := ⟨2, ![65536, 1024]⟩
abbrev S1024 : Shape := ⟨1, ![1024]⟩
abbrev S1024x3584 : Shape := ⟨2, ![1024, 3584]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3584 : Shape := ⟨2, ![65536, 3584]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3584, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3584, .f32⟩
  | .hbm, ⟨20, _⟩ => ⟨S65536x3584, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MemKv.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvReferenceIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 10
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c11_i32 : BitVec 32 := 11#32
  let v23 : BitVec 32 := Scalar.addi c0_i32 c11_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v28 : BitVec 32 := Scalar.muli arg9 c256_i32
  v28
def k0_off1 (k0_t1 : Fin k0_t1_loop.trips) : Fin 2 → Nat :=
  let c0_19 : Index := 0#32
  let c0_i32 : BitVec 32 := 0#32
  let c1_i32 : BitVec 32 := 1#32
  let arg9 : BitVec 32 := Scf.iv c0_i32 c1_i32 k0_t1
  let c256_i32 : BitVec 32 := 256#32
  let v28 : BitVec 32 := Scalar.muli arg9 c256_i32
  let v29 : BitVec 32 := v28
  let v31 : Index := Scalar.indexCast v29
  ![0, v31.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v28 : BitVec 32 := Scalar.muli arg9 c256_i32
  let v29 : BitVec 32 := v28
  let v44 : Index := Scalar.indexCast v29
  let c0_25 : Index := 0#32
  ![v44.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S_, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Combine.lean ====
abbrev S65536x1024 : Shape := ⟨2, ![65536, 1024]⟩
abbrev S8x65536 : Shape := ⟨2, ![8, 65536]⟩
abbrev S1024 : Shape := ⟨1, ![1024]⟩
abbrev S1064704x128 : Shape := ⟨2, ![1064704, 128]⟩
abbrev S1x1024 : Shape := ⟨2, ![1, 1024]⟩
abbrev S1024x1024 : Shape := ⟨2, ![1024, 1024]⟩
abbrev S8x1024 : Shape := ⟨2, ![8, 1024]⟩
abbrev S8192x128 : Shape := ⟨2, ![8192, 128]⟩
abbrev S1024x8 : Shape := ⟨2, ![1024, 8]⟩
abbrev S1024x1 : Shape := ⟨2, ![1024, 1]⟩
abbrev S1024x128 : Shape := ⟨2, ![1024, 128]⟩

abbrev nBuf : Space → Nat
  | .hbm => 6
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S8x65536, .f32⟩
  | .hbm, ⟨2, _⟩ => ⟨S1024, .f32⟩
  | .hbm, ⟨3, _⟩ => ⟨S1064704x128, .f32⟩
  | .hbm, ⟨4, _⟩ => ⟨S1x1024, .f32⟩
  | .hbm, ⟨5, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S1024x1024, .f32⟩
  | .local _ .vmem, ⟨10, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineReferenceIdeal.lean ====
abbrev S65536x1024 : Shape := ⟨2, ![65536, 1024]⟩
abbrev S8x65536 : Shape := ⟨2, ![8, 65536]⟩
abbrev S1024 : Shape := ⟨1, ![1024]⟩
abbrev S1064704x128 : Shape := ⟨2, ![1064704, 128]⟩
abbrev S133088x1024 : Shape := ⟨2, ![133088, 1024]⟩
abbrev S1x65536 : Shape := ⟨2, ![1, 65536]⟩
abbrev S65536 : Shape := ⟨1, ![65536]⟩
abbrev S65536x1 : Shape := ⟨2, ![65536, 1]⟩

abbrev nBuf : Space → Nat
  | .hbm => 19
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x65536, .f32⟩
  | .hbm, ⟨2, _⟩ => ⟨S1024, .f32⟩
  | .hbm, ⟨3, _⟩ => ⟨S1064704x128, .f32⟩
  | .hbm, ⟨4, _⟩ => ⟨S133088x1024, .f32⟩
  | .hbm, ⟨5, _⟩ => ⟨S1x65536, .f32⟩
  | .hbm, ⟨6, _⟩ => ⟨S65536, .f32⟩
  | .hbm, ⟨7, _⟩ => ⟨S65536x1, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S1x65536, .f32⟩
  | .hbm, ⟨12, _⟩ => ⟨S65536, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== CombineFinal.lean ====
abbrev S65536x1024 : Shape := ⟨2, ![65536, 1024]⟩
abbrev S8x65536 : Shape := ⟨2, ![8, 65536]⟩
abbrev S1024 : Shape := ⟨1, ![1024]⟩
abbrev S1064704x128 : Shape := ⟨2, ![1064704, 128]⟩
abbrev S1x1024 : Shape := ⟨2, ![1, 1024]⟩
abbrev S1024x1024 : Shape := ⟨2, ![1024, 1024]⟩
abbrev S8x1024 : Shape := ⟨2, ![8, 1024]⟩
abbrev S8192x128 : Shape := ⟨2, ![8192, 128]⟩
abbrev S1024x8 : Shape := ⟨2, ![1024, 8]⟩
abbrev S1024x1 : Shape := ⟨2, ![1024, 1]⟩
abbrev S1024x128 : Shape := ⟨2, ![1024, 128]⟩

abbrev nBuf : Space → Nat
  | .hbm => 6
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S8x65536, .f32⟩
  | .hbm, ⟨2, _⟩ => ⟨S1024, .f32⟩
  | .hbm, ⟨3, _⟩ => ⟨S1064704x128, .f32⟩
  | .hbm, ⟨4, _⟩ => ⟨S1x1024, .f32⟩
  | .hbm, ⟨5, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S1024x1024, .f32⟩
  | .local _ .vmem, ⟨10, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineFinalReferenceIdeal.lean ====
abbrev S65536x1024 : Shape := ⟨2, ![65536, 1024]⟩
abbrev S8x65536 : Shape := ⟨2, ![8, 65536]⟩
abbrev S1024 : Shape := ⟨1, ![1024]⟩
abbrev S1064704x128 : Shape := ⟨2, ![1064704, 128]⟩
abbrev S133088x1024 : Shape := ⟨2, ![133088, 1024]⟩
abbrev S1x65536 : Shape := ⟨2, ![1, 65536]⟩
abbrev S65536 : Shape := ⟨1, ![65536]⟩
abbrev S65536x1 : Shape := ⟨2, ![65536, 1]⟩
abbrev S_ : Shape := ⟨0, ![]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x65536, .f32⟩
  | .hbm, ⟨2, _⟩ => ⟨S1024, .f32⟩
  | .hbm, ⟨3, _⟩ => ⟨S1064704x128, .f32⟩
  | .hbm, ⟨4, _⟩ => ⟨S133088x1024, .f32⟩
  | .hbm, ⟨5, _⟩ => ⟨S1x65536, .f32⟩
  | .hbm, ⟨6, _⟩ => ⟨S65536, .f32⟩
  | .hbm, ⟨7, _⟩ => ⟨S65536x1, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S1x65536, .f32⟩
  | .hbm, ⟨12, _⟩ => ⟨S65536, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S1x1024, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Post.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S4096x2048 : Shape := ⟨2, ![4096, 2048]⟩
abbrev S1x1024 : Shape := ⟨2, ![1, 1024]⟩
abbrev S1024x512 : Shape := ⟨2, ![1024, 512]⟩
abbrev S256x2048 : Shape := ⟨2, ![256, 2048]⟩
abbrev S512x1024 : Shape := ⟨2, ![512, 1024]⟩
abbrev S1024x1 : Shape := ⟨2, ![1024, 1]⟩
abbrev S256x256 : Shape := ⟨2, ![256, 256]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S4096x2048, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S256x2048, .bf16⟩
  | .local _ .vmem, ⟨10, _⟩ => ⟨S256x2048, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostReferenceIdeal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S4096x2048 : Shape := ⟨2, ![4096, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S16x4096x4x256 : Shape := ⟨4, ![16, 4096, 4, 256]⟩
abbrev S16x256x2048 : Shape := ⟨3, ![16, 256, 2048]⟩
abbrev S16x256x1024 : Shape := ⟨3, ![16, 256, 1024]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩

abbrev nBuf : Space → Nat
  | .hbm => 59
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S4096x2048, .bf16⟩
  | .hbm, ⟨7, _⟩ => ⟨S1024x1024, .f32⟩
  | .hbm, ⟨8, _⟩ => ⟨S65536x1024, .bf16⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S16x4096x4x256, .f32⟩
  | .hbm, ⟨30, _⟩ => ⟨S4096x2048, .f32⟩
  | .hbm, ⟨31, _⟩ => ⟨S16x256x2048, .f32⟩
  | .hbm, ⟨32, _⟩ => ⟨S16x256x1024, .f32⟩
  | .hbm, ⟨33, _⟩ => ⟨S16x256x1024, .f32⟩
  | .hbm, ⟨34, _⟩ => ⟨S16x256x4x256, .f32⟩
  | .hbm, ⟨35, _⟩ => ⟨S16x256x4x256, .f32⟩
  | .hbm, ⟨36, _⟩ => ⟨S16x4x4096x256, .f32⟩
  | .hbm, ⟨37, _⟩ => ⟨S_, .f32⟩
  | .hbm, ⟨38, _⟩ => ⟨S16x4x4096x256, .f32⟩
  | .hbm, ⟨39, _⟩ => ⟨S16x4x4096x256, .f32⟩
  | .hbm, ⟨40, _⟩ => ⟨S_, .f32⟩
  | .hbm, ⟨41, _⟩ => ⟨S16x4x4096, .f32⟩
  | .hbm, ⟨42, _⟩ => ⟨S_, .f32⟩
  | .hbm, ⟨43, _⟩ => ⟨S16x4x4096, .f32⟩
  | .hbm, ⟨44, _⟩ => ⟨S16x4x4096, .f32⟩
  | .hbm, ⟨45, _⟩ => ⟨S16x4x4096x1, .f32⟩
  | .hbm, ⟨46, _⟩ => ⟨S16x4x4096x256, .f32⟩
  | .hbm, ⟨47, _⟩ => ⟨S16x4x4096x256, .f32⟩
  | .hbm, ⟨48, _⟩ => ⟨S16x4x4096x256, .f32⟩
  | .hbm, ⟨49, _⟩ => ⟨S_, .f32⟩
  | .hbm, ⟨50, _⟩ => ⟨S16x4x4096, .f32⟩
  | .hbm, ⟨51, _⟩ => ⟨S16x4x4096x1, .f32⟩
  | .hbm, ⟨52, _⟩ => ⟨S16x4x4096x256, .f32⟩
  | .hbm, ⟨53, _⟩ => ⟨S16x4x4096x256, .f32⟩
  | .hbm, ⟨54, _⟩ => ⟨S16x4x256x4096, .f32⟩
  | .hbm, ⟨55, _⟩ => ⟨S16x4096x4x256, .f32⟩
  | .hbm, ⟨56, _⟩ => ⟨S65536x1024, .f32⟩
  | .hbm, ⟨57, _⟩ => ⟨S65536x1024, .f32⟩
  | .hbm, ⟨58, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.Attn.Gathers.lean ====
/- The three lookups of the attention's programs, read at an index. -/
module

public import proofs.«01_k».proof.KernelIdeal
public import proofs.«01_k».proof.ReferenceIdeal
public import Idealize.ShloMosaic.Lib.ValueIdx

@[expose] public section

set_option maxRecDepth 16384

noncomputable section

namespace Cert.Attn

open Idealize.ShloMosaic Idealize.ShloMosaic.ValueIdx Idealize.ShloMosaic.TcCoe Idealize.SL.Sem

section
open Cert.KernelIdeal
variable [Cert.KernelIdeal.Facts]

theorem bias_lookup {α : Type} (x : S8x257.Idx → α) (idx : IVec S1023x1 32) (h : Fin 8) (p : Fin 1023) :
    Host.gather gather_S8x257_S1023x1_S8x1023_0_1_n_n_1_1_81 x idx (ix2 h p) = x (ix2 h ⟨min (idx (ix2 p 0)).toInt.toNat 256, by omega⟩) := by
  unfold Host.gather
  congr 1
  funext a
  refine Fin.ext ?_
  match a with
  | ⟨0, _⟩ => exact (Nat.zero_add _)
  | ⟨1, _⟩ =>
    refine congrArg (fun z => min (idx z).toInt.toNat 256) (funext fun b => Fin.ext ?_)
    match b with
    | ⟨0, _⟩ => rfl
    | ⟨1, _⟩ => rfl

end

section
open Cert.ReferenceIdeal
variable [Cert.ReferenceIdeal.Facts]

theorem ref_bias_lookup {α : Type} (x : S8x257.Idx → α) (idx : IVec S64x576x1 32) (h : Fin 8) (i : Fin 64) (j : Fin 576) :
    Host.gather gather_S8x257_S64x576x1_S8x64x576_0_1_n_n_1_2_81 x idx (ix3 h i j)
      = x (ix2 h ⟨min (idx (ix3 i j 0)).toInt.toNat 256, by omega⟩) := by
  unfold Host.gather
  congr 1
  funext a
  refine Fin.ext ?_
  match a with
  | ⟨0, _⟩ => exact (Nat.zero_add _)
  | ⟨1, _⟩ =>
    refine congrArg (fun z => min (idx z).toInt.toNat 256) (funext fun b => Fin.ext ?_)
    match b with
    | ⟨0, _⟩ => rfl
    | ⟨1, _⟩ => rfl
    | ⟨2, _⟩ => rfl

theorem ref_row_lookup {α : Type} (x : S16x4608x8x64.Idx → α) (idx : IVec S64x576x1 32) (b : Fin 16) (c : Fin 64) (j : Fin 576) (h : Fin 8) (d : Fin 64) :
    Host.gather gather_S16x4608x8x64_S64x576x1_S16x64x576x8x64_034_1_n_n_1_2_161864 x idx (ix5 b c j h d)
      = x (ix4 b ⟨min (idx (ix3 c j 0)).toInt.toNat 4607, by omega⟩ h d) := by
  unfold Host.gather
  congr 1
  funext a
  refine Fin.ext ?_
  match a with
  | ⟨0, _⟩ => exact (Nat.zero_add _)
  | ⟨2, _⟩ => exact (Nat.zero_add _)
  | ⟨3, _⟩ => exact (Nat.zero_add _)
  | ⟨1, _⟩ =>
    refine congrArg (fun z => min (idx z).toInt.toNat 4607) (funext fun b => Fin.ext ?_)
    match b with
    | ⟨0, _⟩ => rfl
    | ⟨1, _⟩ => rfl
    | ⟨2, _⟩ => rfl

end

end Cert.Attn

end
-- ==== Proof.Attn.Host.lean ====
/- What the attention kernel's launch finds: the table of biases, as the lines before it leave it. -/
module

public import proofs.«01_k».proof.Proof.Gen.KernelIdeal.Frame
public import proofs.«01_k».proof.Proof.Attn.Gathers
public import Idealize.ShloMosaic.Lib.StableHlo.ReadAt

@[expose] public section

set_option maxRecDepth 65536

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ)

/-- The column of the bias table that query `i` of a block looks up for key `j` of its window. -/
def biasCol (i j : ℕ) : Fin 257 := ⟨min 256 (640 + i - j), by omega⟩

theorem table_at : ∀ p : Fin 1023, (lit0 p).toInt.toNat = if p.val < 768 then min 256 (640 - p.val) else 256 := by
  decide +kernel

/-- The word 64, as the lines hold it. -/
abbrev word64 : BitVec 32 := id (constantI S_ 32 64#32) ix0

/-- A number divided by 64, as the lines work it out in 32-bit words. -/
def chunkWord (n : ℕ) : BitVec 32 :=
    Scalar.select
      (IntOp.andi
        (IntOp.cmpi CmpIPredicate.ne
          (if BitVec.ofNat 32 n = 0 then (0 : BitVec 32) else if (BitVec.ofNat 32 n).msb = true then -1 else 1)
          (if word64 = 0 then (0 : BitVec 32) else if BitVec.msb word64 = true then -1 else 1))
        (IntOp.cmpi CmpIPredicate.ne (IntOp.remsi ArithUnit.host (BitVec.ofNat 32 n) word64) 0#32))
      (IntOp.subi (IntOp.divsi ArithUnit.host (BitVec.ofNat 32 n) word64) 1#32)
      (IntOp.divsi ArithUnit.host (BitVec.ofNat 32 n) word64)

theorem chunk_word : ∀ n : Fin 768, chunkWord n.val = BitVec.ofNat 32 (n.val / 64) := by
  decide +kernel

/-- Whether chunk `a` of a block's queries sees chunk `b` of its window. -/
theorem seen_bit : ∀ (a : Fin 4) (b : Fin 12),
    IntOp.andi
      (IntOp.cmpi CmpIPredicate.sge (IntOp.subi (IntOp.addi (BitVec.ofNat 32 a.val) 8#32) (BitVec.ofNat 32 b.val)) 0#32)
      (IntOp.cmpi CmpIPredicate.sle (IntOp.subi (IntOp.addi (BitVec.ofNat 32 a.val) 8#32) (BitVec.ofNat 32 b.val)) 8#32)
      = if a.val ≤ b.val ∧ b.val ≤ a.val + 8 then 1#1 else 0#1 := by
  decide +kernel

theorem seen_of {A B : BitVec 32} (a : Fin 4) (b : Fin 12) (hA : A = BitVec.ofNat 32 a.val) (hB : B = BitVec.ofNat 32 b.val) :
    IntOp.andi (IntOp.cmpi CmpIPredicate.sge (IntOp.subi (IntOp.addi A 8#32) B) 0#32)
      (IntOp.cmpi CmpIPredicate.sle (IntOp.subi (IntOp.addi A 8#32) B) 8#32)
      = if a.val ≤ b.val ∧ b.val ≤ a.val + 8 then 1#1 else 0#1 := by
  rw [hA, hB]
  exact seen_bit a b

theorem select_if {α : Type} {p : Prop} [Decidable p] (y z : α) : Scalar.select (if p then 1#1 else 0#1) y z = if p then y else z := by
  by_cases h : p
  · rw [if_pos h, if_pos h]
    rfl
  · rw [if_neg h, if_neg h]
    rfl

/-- The table holds, at the column that a query's row of biases is shifted to, the column of the biases it looks up. -/
theorem col_of (i j : ℕ) (hi : i < 256) (hj : j < 768) :
    min (if (i * 1022 + j) % 1023 < 768 then min 256 (640 - (i * 1022 + j) % 1023) else 256) 256 = min 256 (640 + i - j) := by
  have hp : (i * 1022 + j) % 1023 = if i ≤ j then j - i else j + 1023 - i := by
    split_ifs with h
    · rw [show i * 1022 + j = (j - i) + 1023 * i by omega, Nat.add_mul_mod_self_left, Nat.mod_eq_of_lt (by omega)]
    · rw [show i * 1022 + j = (j + 1023 - i) + 1023 * (i - 1) by omega, Nat.add_mul_mod_self_left, Nat.mod_eq_of_lt (by omega)]
  rw [hp]
  split_ifs <;> omega

/-- The table's words, as the gather of the biases is handed them. -/
theorem table_idx (z : IVec S1023 1) (hz : ∀ i, z i = 0#1) (y : IVec S1023 32) (p : Fin 1023) :
    broadcastInDim S1023x1 ![0] bcast_S1023_S1023x1_0 (select z y fun i => lit0 (S1023.rowMajor i)) (ix2 p 0) = lit0 p := by
  change Scalar.select (z _) (y _) (lit0 (S1023.rowMajor _)) = _
  rw [hz]
  change lit0 (S1023.rowMajor _) = _
  refine congrArg lit0 (Fin.ext ?_)
  exact (Shape.rowMajor_val_one _).trans rfl

theorem bias_at (c : Dev nD) (g : Fin 4) (x : Fin 512) (j : Fin 768) :
    V m c main_v29 (ix3 g x j)
      = if x.val % 256 / 64 * 64 ≤ j.val ∧ j.val < x.val % 256 / 64 * 64 + 576
        then m ((c : Thread nD τ).loc main_arg1) (ix2 ⟨g.val * 2 + x.val / 256, by omega⟩ (biasCol (x.val % 256) j.val)) else (⊥ : EReal) := by
  have hcol (w : ℕ) (hw : w = (lit0 ⟨(x.val % 256 * 1022 + j.val) % 1023, by omega⟩).toInt.toNat) :
      (⟨min w 256, by omega⟩ : Fin 257) = biasCol (x.val % 256) j.val := by
    refine Fin.ext ?_
    change min w 256 = min 256 (640 + x.val % 256 - j.val)
    rw [hw, table_at]
    exact col_of _ _ (by omega) j.isLt
  have hw := seen_of ⟨x.val % 256 / 64, by omega⟩ ⟨j.val / 64, by omega⟩ (chunk_word ⟨x.val % 256, by omega⟩) (chunk_word j)
  unfold V
  after_reads_at
  refine (congrArg (fun w => Scalar.select w _ _) hw).trans ?_
  refine (congrArg (fun y => Scalar.select _ y _) (bias_lookup _ _ _ _)).trans ?_
  refine (congrArg (fun k => Scalar.select _ (m ((c : Thread nD τ).loc main_arg1) (ix2 _ k)) _) (hcol _ ?_)).trans ?_
  · exact congrArg (fun w : BitVec 32 => w.toInt.toNat) (table_idx _ (fun _ => rfl) _ _)
  refine (select_if _ _).trans ?_
  have hband : (x.val % 256 / 64 * 64 ≤ j.val ∧ j.val < x.val % 256 / 64 * 64 + 576)
      ↔ (x.val % 256 / 64 ≤ j.val / 64 ∧ j.val / 64 ≤ x.val % 256 / 64 + 8) := by omega
  refine if_congr hband.symm rfl ?_
  change Ideal.ofBits .f32 4286578688#32 = ⊥
  simp [Ideal.ofBits, Ideal.ieee]

theorem gain_at (c : Dev nD) (l : Fin 512) : V m c main_v30 (ix2 0 l) = m ((c : Thread nD τ).loc main_arg2) (ix1 l) := by
  unfold V
  after_reads_at

end Cert.Attn

end
-- ==== Proof.Attn.Block.lean ====
/- What the attention kernel does with one block of 256 queries, as a definition over the length `W` of the window of keys it
   reads: `W` is 256 and 512 at the first two blocks of a sequence and 768 at every other. -/
module

public import proofs.«01_k».proof.Proof.Gen.KernelIdeal.Skeleton
public import Idealize.ShloMosaic.Lib.Pointwise
public import Idealize.ShloMosaic.Lib.Pointwise.IndexVar
public import Idealize.ShloMosaic.Lib.MatmulPlain

@[expose] public section

set_option maxRecDepth 16384

noncomputable section

namespace Cert.Attn

open Idealize.ShloMosaic Idealize.ShloMosaic.TcCoe Idealize.SL.Sem
open Cert.KernelIdeal Cert.KernelIdeal.Gen

/-- A window of `W` rows of keys or values. -/
abbrev SWin (W : ℕ) : Shape := ⟨2, ![W, 512]⟩
/-- The columns of one pair of heads of a window. -/
abbrev SPair (W : ℕ) : Shape := ⟨2, ![W, 128]⟩
/-- The values of a pair of heads beside a block of ones. -/
abbrev SVal (W : ℕ) : Shape := ⟨2, ![W, 256]⟩
/-- The scores of the 256 queries against the window, the two heads of a pair one above the other. -/
abbrev SScore (W : ℕ) : Shape := ⟨2, ![512, W]⟩
/-- The biases of a pair of heads. -/
abbrev SBias (W : ℕ) : Shape := ⟨3, ![1, 512, W]⟩

/-- The side conditions of the operations over a window of `W` keys. -/
structure Fits (W : ℕ) : Prop where
  col0 : (SWin W).Slices ![0, 0] (SPair W)
  col1 : (SWin W).Slices ![0, 128] (SPair W)
  col2 : (SWin W).Slices ![0, 256] (SPair W)
  col3 : (SWin W).Slices ![0, 384] (SPair W)
  bias : (SBias W).ShapeCasts (SScore W)
  red : (SScore W).Reduces [1] S512
  row : S512x1.Broadcasts (SScore W)
  ones : Shape.Concatenates [SPair W, SPair W] (SVal W) 1

theorem fits256 : Fits 256 := ⟨by decide, by decide, by decide, by decide, by decide, by decide, by decide, by decide⟩
theorem fits512 : Fits 512 := ⟨by decide, by decide, by decide, by decide, by decide, by decide, by decide, by decide⟩
theorem fits768 : Fits 768 := ⟨by decide, by decide, by decide, by decide, by decide, by decide, by decide, by decide⟩

section Defs

variable {F : FTy → Type} [FloatOps F] [Named F] {W : ℕ}

/-- Lane `c` of a pair of heads belongs to its first head. -/
def firstHead : IVec S256x128 1 :=
  cmpi .slt (iota .tc S256x128 32 [1] iota_S256x128_d1_w32) (broadcast S256x128 64#32)

/-- The queries of a block, scaled. -/
def scaled (q : Vec F S256x512 .bf16) : FVec F S256x512 .bf16 :=
  truncf .bf16 (mulf (extf .f32 q bitsLt_bf16_f32) (broadcast S256x512 (Named.named κ "scale" 0x3E38AA3B#32))) bitsLt_bf16_f32

/-- The queries of a pair of heads, each head in rows of its own, the other head's lanes zero. -/
def stacked (o : ℕ) (ho : S256x512.Slices ![0, o] S256x128) (q : Vec F S256x512 .bf16) : FVec F S512x128 .bf16 :=
  concatenate S512x128 0
    [⟨S256x128, select firstHead (extractStridedSlice S256x128 ![0, o] (scaled q) ho) (broadcast S256x128 (Scalar.ofBits .bf16 0x0000#16))⟩,
      ⟨S256x128, select firstHead (broadcast S256x128 (Scalar.ofBits .bf16 0x0000#16)) (extractStridedSlice S256x128 ![0, o] (scaled q) ho)⟩]
    concatenates_S256x128_S256x128_S512x128_d0

/-- The scores of a pair of heads, biases added. -/
def scores (fit : Fits W) (o : ℕ) (ho : S256x512.Slices ![0, o] S256x128) (hk : (SWin W).Slices ![0, o] (SPair W))
    (q : Vec F S256x512 .bf16) (k : Vec F (SWin W) .bf16) (b : Vec F (SBias W) .f32) : FVec F (SScore W) .f32 :=
  addf (matmul (DotDims.transposedRhs 512 128 W) none (stacked o ho q) (extractStridedSlice (SPair W) ![0, o] k hk)
      (constant (SScore W) .f32 0x00000000#32))
    (mulf (shapeCast (SScore W) b fit.bias) (broadcast (SScore W) (Named.named κ "log2e" 0x3FB8AA3B#32)))

/-- Two to the power of the scores less each row's greatest. -/
def weights (fit : Fits W) (s : FVec F (SScore W) .f32) : FVec F (SScore W) .bf16 :=
  truncf .bf16 (exp2 (subf s (broadcastTo (SScore W)
    (shapeCast S512x1 (multiReduction .maximumf [1] S512 s 0xFF800000#32 fit.red (.inl rfl) rfl) shapeCasts_S512_S512x1) fit.row))) bitsLt_bf16_f32

/-- The weights by the values and, beside them, by ones. -/
def summed (fit : Fits W) (o : ℕ) (hk : (SWin W).Slices ![0, o] (SPair W)) (e : FVec F (SScore W) .bf16) (v : Vec F (SWin W) .bf16) :
    FVec F S512x256 .f32 :=
  matmul (DotDims.plain 512 W 256) none e
    (concatenate (SVal W) 1 [⟨SPair W, extractStridedSlice (SPair W) ![0, o] v hk⟩,
      ⟨SPair W, broadcast (SPair W) (Scalar.ofBits .bf16 0x3F80#16)⟩] fit.ones)
    (constant S512x256 .f32 0x00000000#32)

/-- What the kernel has of the two heads of a pair. -/
def pairOut (fit : Fits W) (o : ℕ) (ho : S256x512.Slices ![0, o] S256x128) (hk : (SWin W).Slices ![0, o] (SPair W))
    (q : Vec F S256x512 .bf16) (k v : Vec F (SWin W) .bf16) (b : Vec F (SBias W) .f32) : FVec F S256x128 .f32 :=
  let oa := summed fit o hk (weights fit (scores fit o ho hk q k b)) v
  let r := divf (extractStridedSlice S512x128 ![0, 0] oa slices_S512x256_o0_0_S512x128)
    (extractStridedSlice S512x128 ![0, 128] oa slices_S512x256_o0_128_S512x128)
  select firstHead (extractStridedSlice S256x128 ![0, 0] r slices_S512x128_o0_0_S256x128)
    (extractStridedSlice S256x128 ![256, 0] r slices_S512x128_o256_0_S256x128)

/-- The eight heads beside one another. -/
def headsOut (fit : Fits W) (q : Vec F S256x512 .bf16) (k v : Vec F (SWin W) .bf16) (b0 b1 b2 b3 : Vec F (SBias W) .f32) :
    FVec F S256x512 .f32 :=
  concatenate S256x512 1 [⟨S256x128, pairOut fit 0 slices_S256x512_o0_0_S256x128 fit.col0 q k v b0⟩,
    ⟨S256x128, pairOut fit 128 slices_S256x512_o0_128_S256x128 fit.col1 q k v b1⟩,
    ⟨S256x128, pairOut fit 256 slices_S256x512_o0_256_S256x128 fit.col2 q k v b2⟩,
    ⟨S256x128, pairOut fit 384 slices_S256x512_o0_384_S256x128 fit.col3 q k v b3⟩]
    concatenates_S256x128_S256x128_S256x128_S256x128_S256x512_d1

/-- A block's rows, each brought to mean square one, by the gains. -/
def normed (x : FVec F S256x512 .f32) (g : Vec F S1x512 .f32) : FVec F S256x512 .bf16 :=
  truncf .bf16 (mulf (mulf x (broadcastTo S256x512 (rsqrt (addf (divf
      (shapeCast S256x1 (multiReduction .add [1] S256 (mulf x x) 0x00000000#32 reduces_S256x512_S256 (.inl rfl) rfl) shapeCasts_S256_S256x1)
      (broadcast S256x1 (Scalar.ofBits .f32 0x44000000#32))) (broadcast S256x1 (Scalar.ofBits .f32 0x358637BD#32)))) broadcasts_S256x1_S256x512))
    (broadcastTo S256x512 (shapeCast S1x512 g shapeCasts_S1x512_S1x512) broadcasts_S1x512_S256x512)) bitsLt_bf16_f32

/-- What the kernel stores for a block of 256 queries against a window of `W` keys. -/
def blockOut (fit : Fits W) (q : Vec F S256x512 .bf16) (k v : Vec F (SWin W) .bf16) (b0 b1 b2 b3 : Vec F (SBias W) .f32)
    (g : Vec F S1x512 .f32) : FVec F S256x512 .bf16 :=
  normed (headsOut fit q k v b0 b1 b2 b3) g

end Defs

end Cert.Attn

end
-- ==== Proof.Attn.Heads.lean ====
/- What the attention kernel's block of 256 queries holds, read at a query and a lane. -/
module

public import proofs.«01_k».proof.Proof.Attn.Block

@[expose] public section

set_option maxRecDepth 16384

noncomputable section

namespace Cert.Attn

open Idealize.ShloMosaic Idealize.ShloMosaic.TcCoe Idealize.SL.Sem
open Cert.KernelIdeal Cert.KernelIdeal.Gen

theorem firstHead_word : ∀ c : Fin 128, IntOp.cmpi .slt (BitVec.ofNat 32 c.val) 64#32 = if c.val < 64 then 1#1 else 0#1 := by decide

theorem select_firstHead (i : Fin 256) (c : Fin 128) (x y : EReal) :
    Scalar.select (firstHead (ix2 i c)) x y = if c.val < 64 then x else y := by
  have h : firstHead (ix2 i c) = if c.val < 64 then 1#1 else 0#1 := by
    rw [← firstHead_word]; pointwise [firstHead]
  rw [h]
  by_cases hc : c.val < 64 <;> simp [hc, Scalar.select]

variable {W : ℕ}

theorem stacked_apply (o : ℕ) (ho : S256x512.Slices ![0, o] S256x128) (hb : o + 128 ≤ 512) (q : FVec Ideal S256x512 .bf16) (r : Fin 2) (i : Fin 256) (c : Fin 128) :
    stacked (F := Ideal) o ho q (ix2 ⟨256 * r.val + i.val, by omega⟩ c)
      = if c.val / 64 = r.val then q (ix2 i ⟨o + c.val, by omega⟩) * Named.named (F := Ideal) κ "scale" (φ := .f32) 0x3E38AA3B#32 else 0 := by
  pointwise [stacked, scaled]
  by_cases hr : r.val = 0
  · have h1 : 256 * r.val + i.val < 256 := by omega
    have h2 : (⟨256 * r.val + i.val, h1⟩ : Fin 256) = i := Fin.ext (by simp [hr])
    have hc : c.val < 64 ↔ c.val / 64 = r.val := by omega
    rw [dif_pos h1, select_firstHead]
    simp only [h2, hc]
  · have h1 : ¬ 256 * r.val + i.val < 256 := by omega
    have h2 : (⟨256 * r.val + i.val - 256, by omega⟩ : Fin 256) = i := Fin.ext (by show 256 * r.val + i.val - 256 = i.val; omega)
    rw [dif_neg h1, select_firstHead, h2]
    by_cases hc : c.val < 64
    · rw [if_pos hc, if_neg (by omega)]
    · rw [if_neg hc, if_pos (by omega)]

theorem scores_apply (fit : Fits W) (o : ℕ) (ho : S256x512.Slices ![0, o] S256x128) (hk : (SWin W).Slices ![0, o] (SPair W)) (hb : o + 128 ≤ 512)
    (q : FVec Ideal S256x512 .bf16) (k : FVec Ideal (SWin W) .bf16) (b : FVec Ideal (SBias W) .f32) (r : Fin 512) (j : Fin W) :
    scores (F := Ideal) fit o ho hk q k b (ix2 r j)
      = (∑ d : Fin 128, stacked (F := Ideal) o ho q (ix2 r d) * k (ix2 j ⟨o + d.val, by omega⟩))
        + b (ix3 0 r j) * Named.named (F := Ideal) κ "log2e" (φ := .f32) 0x3FB8AA3B#32 := by
  have hi : Shape.reshapeEquiv fit.bias (ix2 r j) = ix3 0 r j := by
    apply Shape.reshapeEquiv_eq_of_rowMajor
    rw [rowMajor_val2 _ W rfl, rowMajor_val3 _ (512 * W) W rfl rfl]
    show 0 * (512 * W) + r.val * W + j.val = r.val * W + j.val
    omega
  pointwise [scores]
  rw [hi]

theorem neg_inf_f32 : Ideal.ofBits .f32 0xFF800000#32 = (⊥ : EReal) := by
  simp [Ideal.ofBits, Ideal.ieee]

theorem weights_apply (fit : Fits W) (s : FVec Ideal (SScore W) .f32) (r : Fin 512) (j : Fin W) :
    weights (F := Ideal) fit s (ix2 r j) = Ideal.exp2 (s (ix2 r j) - Finset.univ.sup fun l : Fin W => s (ix2 r l)) := by
  pointwise [weights]
  rw [neg_inf_f32]
  rfl

theorem summed_apply (fit : Fits W) (o : ℕ) (hk : (SWin W).Slices ![0, o] (SPair W)) (hb : o + 128 ≤ 512) (e : FVec Ideal (SScore W) .bf16)
    (v : FVec Ideal (SWin W) .bf16) (r : Fin 512) (c : Fin 256) :
    summed (F := Ideal) fit o hk e v (ix2 r c)
      = ∑ j : Fin W, e (ix2 r j) * if h : c.val < 128 then v (ix2 j ⟨o + c.val, by omega⟩) else 1 := by
  unfold summed
  refine (Ideal.matmul_plain_apply _ _ _ _ r c).trans ?_
  simp only [← ix2_eq_valueIdx]
  pointwise

/-- One head at one query: the values weighted by two to the power of the scores less the greatest, over the sum of the weights. -/
def headOut (s v : Fin W → EReal) : EReal :=
  Ideal.div (∑ j, Ideal.exp2 (s j - Finset.univ.sup s) * v j) (∑ j, Ideal.exp2 (s j - Finset.univ.sup s))

/-- The kernel's score of query `i` against key `j` of its window, in head `r` of the pair whose columns begin at `o`. -/
def pairScore (o : ℕ) (hb : o + 128 ≤ 512) (q : FVec Ideal S256x512 .bf16) (k : FVec Ideal (SWin W) .bf16) (b : FVec Ideal (SBias W) .f32)
    (r : Fin 2) (i : Fin 256) (j : Fin W) : EReal :=
  (∑ d : Fin 64, q (ix2 i ⟨o + (r.val * 64 + d.val), by omega⟩) * Named.named (F := Ideal) κ "scale" (φ := .f32) 0x3E38AA3B#32
      * k (ix2 j ⟨o + (r.val * 64 + d.val), by omega⟩))
    + b (ix3 0 ⟨256 * r.val + i.val, by omega⟩ j) * Named.named (F := Ideal) κ "log2e" (φ := .f32) 0x3FB8AA3B#32

theorem scores_head (fit : Fits W) (o : ℕ) (ho : S256x512.Slices ![0, o] S256x128) (hk : (SWin W).Slices ![0, o] (SPair W)) (hb : o + 128 ≤ 512)
    (q : FVec Ideal S256x512 .bf16) (k : FVec Ideal (SWin W) .bf16) (b : FVec Ideal (SBias W) .f32) (r : Fin 2) (i : Fin 256) (j : Fin W) :
    scores (F := Ideal) fit o ho hk q k b (ix2 ⟨256 * r.val + i.val, by omega⟩ j) = pairScore o hb q k b r i j := by
  rw [scores_apply fit o ho hk hb, pairScore]
  refine congrArg (· + _) ?_
  simp only [stacked_apply o ho hb]
  rw [Fin.sum_univ_tiles 2 64 rfl, Finset.sum_eq_single r]
  · refine Finset.sum_congr rfl fun d _ => ?_
    rw [if_pos (by show (r.val * 64 + d.val) / 64 = r.val; omega)]
  · intro a _ ha
    refine Finset.sum_eq_zero fun d _ => ?_
    have : a.val ≠ r.val := fun h => ha (Fin.ext h)
    rw [if_neg (by show ¬ (a.val * 64 + d.val) / 64 = r.val; omega), zero_mul]
  · intro h; exact absurd (Finset.mem_univ _) h

/-- The half of a pair's rows a lane of head `r` is read from. -/
theorem half_row (A : FVec Ideal S512x256 .f32) (r : Fin 2) (i : Fin 256) (c : Fin 64) :
    (if r.val * 64 + c.val < 64 then
      Ideal.div (A (ix2 ⟨i.val, by omega⟩ ⟨r.val * 64 + c.val, by omega⟩)) (A (ix2 ⟨i.val, by omega⟩ ⟨128 + (r.val * 64 + c.val), by omega⟩))
    else Ideal.div (A (ix2 ⟨256 + i.val, by omega⟩ ⟨r.val * 64 + c.val, by omega⟩)) (A (ix2 ⟨256 + i.val, by omega⟩ ⟨128 + (r.val * 64 + c.val), by omega⟩)))
      = Ideal.div (A (ix2 ⟨256 * r.val + i.val, by omega⟩ ⟨r.val * 64 + c.val, by omega⟩))
          (A (ix2 ⟨256 * r.val + i.val, by omega⟩ ⟨128 + (r.val * 64 + c.val), by omega⟩)) := by
  by_cases hr : r.val = 0
  · have hl : r.val * 64 + c.val < 64 := by omega
    have hx : (⟨256 * r.val + i.val, by omega⟩ : Fin 512) = ⟨i.val, by omega⟩ := Fin.ext (by show 256 * r.val + i.val = i.val; omega)
    rw [if_pos hl, hx]
  · have hl : ¬ r.val * 64 + c.val < 64 := by omega
    have hx : (⟨256 * r.val + i.val, by omega⟩ : Fin 512) = ⟨256 + i.val, by omega⟩ := Fin.ext (by show 256 * r.val + i.val = 256 + i.val; omega)
    rw [if_neg hl, hx]

theorem pairOut_apply (fit : Fits W) (o : ℕ) (ho : S256x512.Slices ![0, o] S256x128) (hk : (SWin W).Slices ![0, o] (SPair W)) (hb : o + 128 ≤ 512)
    (q : FVec Ideal S256x512 .bf16) (k v : FVec Ideal (SWin W) .bf16) (b : FVec Ideal (SBias W) .f32) (r : Fin 2) (i : Fin 256) (c : Fin 64) :
    pairOut (F := Ideal) fit o ho hk q k v b (ix2 i ⟨r.val * 64 + c.val, by omega⟩)
      = headOut (pairScore o hb q k b r i) fun j => v (ix2 j ⟨o + (r.val * 64 + c.val), by omega⟩) := by
  unfold pairOut
  pointwise
  rw [select_firstHead]
  refine (half_row (summed (F := Ideal) fit o hk (weights fit (scores fit o ho hk q k b)) v) r i c).trans ?_
  rw [summed_apply fit o hk hb, summed_apply fit o hk hb]
  simp only [weights_apply, scores_head fit o ho hk hb]
  have hc : r.val * 64 + c.val < 128 := by omega
  have hc' : ¬ 128 + (r.val * 64 + c.val) < 128 := by omega
  simp only [dif_pos hc, dif_neg hc', mul_one, headOut]

theorem pairOut_at (fit : Fits W) {o o' : ℕ} (ho : S256x512.Slices ![0, o] S256x128) (ho' : S256x512.Slices ![0, o'] S256x128)
    (hk : (SWin W).Slices ![0, o] (SPair W)) (hk' : (SWin W).Slices ![0, o'] (SPair W)) (q : FVec Ideal S256x512 .bf16)
    (k v : FVec Ideal (SWin W) .bf16) (b : FVec Ideal (SBias W) .f32) (i : Fin 256) {x y : Fin 128} (h : o = o') (hx : x = y) :
    pairOut (F := Ideal) fit o ho hk q k v b (ix2 i x) = pairOut (F := Ideal) fit o' ho' hk' q k v b (ix2 i y) := by
  subst h hx
  rfl

/-- A row of eight heads, read at a head's lane: the pair, then the head of the pair. -/
theorem headsOut_apply (fit : Fits W) (q : FVec Ideal S256x512 .bf16) (k v : FVec Ideal (SWin W) .bf16) (b : Fin 4 → FVec Ideal (SBias W) .f32)
    (p : Fin 4) (r : Fin 2) (i : Fin 256) (c : Fin 64) :
    headsOut (F := Ideal) fit q k v (b 0) (b 1) (b 2) (b 3) (ix2 i ⟨p.val * 128 + (r.val * 64 + c.val), by omega⟩)
      = headOut (pairScore (p.val * 128) (by omega) q k (b p) r i) fun j => v (ix2 j ⟨p.val * 128 + (r.val * 64 + c.val), by omega⟩) := by
  have ho : S256x512.Slices ![0, p.val * 128] S256x128 := by revert p; decide
  have hk : (SWin W).Slices ![0, p.val * 128] (SPair W) := by
    fin_cases p
    · exact fit.col0
    · exact fit.col1
    · exact fit.col2
    · exact fit.col3
  rw [← pairOut_apply fit (p.val * 128) ho hk (by omega) q k v (b p) r i c]
  unfold headsOut
  have hc : r.val * 64 + c.val < 128 := by omega
  obtain hp | hp | hp | hp : p = 0 ∨ p = 1 ∨ p = 2 ∨ p = 3 := by omega
  all_goals
    subst hp
    pointwise
  · rw [dif_pos hc]
  · rw [dif_pos hc]
  · rw [dif_neg (by omega), dif_neg (by omega), dif_pos (by omega)]
    exact pairOut_at fit _ _ _ _ q k v (b 2) i rfl (Fin.ext (show 256 + (r.val * 64 + c.val) - 128 - 128 = r.val * 64 + c.val by omega))
  · rw [dif_neg (by omega), dif_neg (by omega), dif_neg (by omega)]
    exact pairOut_at fit _ _ _ _ q k v (b 3) i rfl (Fin.ext (show 384 + (r.val * 64 + c.val) - 128 - 128 - 128 = r.val * 64 + c.val by omega))

/-- A row brought to mean square one, by the gains. -/
def rowOut (x g : Fin 512 → EReal) (l : Fin 512) : EReal :=
  x l * Ideal.rsqrt (Ideal.div (∑ l' : Fin 512, x l' * x l') (Ideal.ofBits .f32 0x44000000#32) + Ideal.ofBits .f32 0x358637BD#32) * g l

theorem normed_apply (x : FVec Ideal S256x512 .f32) (g : FVec Ideal S1x512 .f32) (i : Fin 256) (l : Fin 512) :
    normed (F := Ideal) x g (ix2 i l) = rowOut (fun l' => x (ix2 i l')) (fun l' => g (ix2 0 l')) l := by
  pointwise [normed, rowOut]

/-- The score of query `i` against key `j` of the window in the head of lane `l`. -/
def laneScore (q : FVec Ideal S256x512 .bf16) (k : FVec Ideal (SWin W) .bf16) (b : Fin 4 → FVec Ideal (SBias W) .f32)
    (i : Fin 256) (l : Fin 512) (j : Fin W) : EReal :=
  (∑ d : Fin 64, q (ix2 i ⟨l.val / 64 * 64 + d.val, by omega⟩) * Named.named (F := Ideal) κ "scale" (φ := .f32) 0x3E38AA3B#32
      * k (ix2 j ⟨l.val / 64 * 64 + d.val, by omega⟩))
    + b ⟨l.val / 128, by omega⟩ (ix3 0 ⟨256 * (l.val / 64 % 2) + i.val, by omega⟩ j) * Named.named (F := Ideal) κ "log2e" (φ := .f32) 0x3FB8AA3B#32

theorem headsOut_lane (fit : Fits W) (q : FVec Ideal S256x512 .bf16) (k v : FVec Ideal (SWin W) .bf16) (b : Fin 4 → FVec Ideal (SBias W) .f32)
    (i : Fin 256) (l : Fin 512) :
    headsOut (F := Ideal) fit q k v (b 0) (b 1) (b 2) (b 3) (ix2 i l) = headOut (laneScore q k b i l) fun j => v (ix2 j l) := by
  have h := headsOut_apply fit q k v b ⟨l.val / 128, by omega⟩ ⟨l.val / 64 % 2, by omega⟩ i ⟨l.val % 64, by omega⟩
  have hl : (⟨l.val / 128 * 128 + (l.val / 64 % 2 * 64 + l.val % 64), by omega⟩ : Fin 512) = l := Fin.ext (by dsimp only; omega)
  simp only [hl] at h
  refine h.trans (congrArg (headOut · _) (funext fun j => ?_))
  have hd : ∀ d : Fin 64, (⟨l.val / 128 * 128 + (l.val / 64 % 2 * 64 + d.val), by omega⟩ : Fin 512) = ⟨l.val / 64 * 64 + d.val, by omega⟩ :=
    fun d => Fin.ext (by dsimp only; omega)
  simp only [pairScore, laneScore, hd]

theorem blockOut_apply (fit : Fits W) (q : FVec Ideal S256x512 .bf16) (k v : FVec Ideal (SWin W) .bf16) (b : Fin 4 → FVec Ideal (SBias W) .f32)
    (g : FVec Ideal S1x512 .f32) (i : Fin 256) (l : Fin 512) :
    blockOut (F := Ideal) fit q k v (b 0) (b 1) (b 2) (b 3) g (ix2 i l)
      = rowOut (fun l' => headOut (laneScore q k b i l') fun j => v (ix2 j l')) (fun l' => g (ix2 0 l')) l := by
  unfold blockOut
  rw [normed_apply]
  simp only [headsOut_lane]

end Cert.Attn

end
-- ==== Proof.Attn.Softmax.lean ====
/- A softmax in powers of two, divided at the end, is the softmax in powers of `e`, divided at each weight. -/
module

public import Idealize.ShloMosaic.PureOps.Ideal

@[expose] public section

noncomputable section

namespace Cert.Softmax

open Idealize.ShloMosaic

/-- Scores in powers of two over a finite set of keys, the weights summed and the quotient taken at the end. -/
def ofPowers {ι : Type} (K : Finset ι) (s v : ι → EReal) : EReal :=
  Ideal.div (∑ p ∈ K, Ideal.exp2 (s p - K.sup s) * v p) (∑ p ∈ K, Ideal.exp2 (s p - K.sup s))

/-- The softmax of the scores, by the values. -/
def ofExps {ι : Type} (K : Finset ι) (s v : ι → EReal) : EReal :=
  ∑ p ∈ K, Ideal.div (Ideal.exp (s p - K.sup s)) (∑ p' ∈ K, Ideal.exp (s p' - K.sup s)) * v p

theorem coe_sum {ι : Type} (K : Finset ι) (f : ι → ℝ) : ((∑ p ∈ K, f p : ℝ) : EReal) = ∑ p ∈ K, (f p : EReal) := by
  classical
  induction K using Finset.induction_on with
  | empty => simp
  | insert a K h ih => rw [Finset.sum_insert h, Finset.sum_insert h, EReal.coe_add, ih]

/-- Over a nonempty set the greatest of finite scores is one of them. -/
theorem sup_coe {ι : Type} (K : Finset ι) (hK : K.Nonempty) (s : ι → ℝ) : ∃ p ∈ K, K.sup (fun p => (s p : EReal)) = (s p : EReal) := by
  obtain ⟨p, hp, h⟩ := Finset.exists_mem_eq_sup K hK (fun p => (s p : EReal))
  exact ⟨p, hp, h⟩

theorem sup_mul {ι : Type} (K : Finset ι) (hK : K.Nonempty) (s : ι → ℝ) {c : ℝ} (hc : 0 < c) {M : ℝ}
    (h : K.sup (fun p => (s p : EReal)) = M) : K.sup (fun p => ((s p * c : ℝ) : EReal)) = ((M * c : ℝ) : EReal) := by
  obtain ⟨p, hp, hM⟩ := sup_coe K hK s
  have hMp : M = s p := EReal.coe_injective (h.symm.trans hM)
  apply le_antisymm
  · refine Finset.sup_le fun q hq => EReal.coe_le_coe (mul_le_mul_of_nonneg_right ?_ hc.le)
    have : (s q : EReal) ≤ M := h ▸ Finset.le_sup (f := fun p => (s p : EReal)) hq
    exact EReal.coe_le_coe_iff.mp this
  · rw [hMp]
    exact Finset.le_sup (f := fun p => ((s p * c : ℝ) : EReal)) hp

theorem mul_sum_of_real {ι : Type} (K : Finset ι) (f : ι → EReal) {x : ℝ} (hx : 0 ≤ x) :
    (∑ p ∈ K, f p) * (x : EReal) = ∑ p ∈ K, f p * (x : EReal) := by
  classical
  induction K using Finset.induction_on with
  | empty => simp
  | insert a K h ih =>
    rw [Finset.sum_insert h, Finset.sum_insert h, ← ih,
      EReal.right_distrib_of_nonneg_of_ne_top (EReal.coe_nonneg.mpr hx) (EReal.coe_ne_top x)]

theorem rpow_two (x : ℝ) : Real.rpow 2 (x * (Real.log 2)⁻¹) = Real.exp x := by
  have h : Real.log 2 ≠ 0 := (Real.log_pos (by norm_num)).ne'
  show (2 : ℝ) ^ (x * (Real.log 2)⁻¹) = _
  rw [Real.rpow_def_of_pos (by norm_num)]
  congr 1
  field_simp

/-- Finite scores times the logarithm of `e` to the base two, in powers of two, give the softmax of the scores. -/
theorem ofPowers_eq {ι : Type} (K : Finset ι) (hK : K.Nonempty) (s : ι → ℝ) (S T v w : ι → EReal)
    (hS : ∀ p ∈ K, S p = ((s p * (Real.log 2)⁻¹ : ℝ) : EReal)) (hT : ∀ p ∈ K, T p = (s p : EReal)) (hv : ∀ p ∈ K, v p = w p) :
    ofPowers K S v = ofExps K T w := by
  obtain ⟨p₀, hp₀, hM⟩ := sup_coe K hK s
  have hc : (0 : ℝ) < (Real.log 2)⁻¹ := inv_pos.mpr (Real.log_pos (by norm_num))
  have hST : K.sup T = ((s p₀ : ℝ) : EReal) := (Finset.sup_congr rfl hT).trans hM
  have hSS : K.sup S = ((s p₀ * (Real.log 2)⁻¹ : ℝ) : EReal) := (Finset.sup_congr rfl hS).trans (sup_mul K hK s hc hM)
  have he : ∀ p ∈ K, Ideal.exp2 (S p - K.sup S) = ((Real.exp (s p - s p₀) : ℝ) : EReal) := fun p hp => by
    rw [hS p hp, hSS, ← EReal.coe_sub, ← sub_mul]
    exact congrArg ((↑) : ℝ → EReal) (rpow_two _)
  have he' : ∀ p ∈ K, Ideal.exp (T p - K.sup T) = ((Real.exp (s p - s p₀) : ℝ) : EReal) := fun p hp => by
    rw [hT p hp, hST, ← EReal.coe_sub]
    rfl
  have hL : 0 < ∑ p ∈ K, Real.exp (s p - s p₀) := Finset.sum_pos (fun p _ => Real.exp_pos _) hK
  have hL' : ((∑ p ∈ K, Real.exp (s p - s p₀) : ℝ) : EReal) ≠ 0 := by exact_mod_cast hL.ne'
  unfold ofPowers ofExps
  rw [Finset.sum_congr rfl he, Finset.sum_congr rfl he', ← coe_sum,
    Finset.sum_congr rfl fun p hp => congrArg₂ (· * ·) (he p hp) (hv p hp)]
  unfold Ideal.div
  simp only [if_neg hL', ← EReal.coe_inv]
  rw [mul_sum_of_real K _ (inv_nonneg.mpr hL.le)]
  refine Finset.sum_congr rfl fun p hp => ?_
  rw [he' p hp, mul_right_comm]

/-- A sum over a window of naturals is the sum over the part of it outside which the summand is zero. -/
theorem sum_window {W A lo hi : ℕ} (f : ℕ → EReal) (hlo : A ≤ lo) (hhi : hi ≤ A + W)
    (h0 : ∀ p, A ≤ p → p < A + W → ¬(lo ≤ p ∧ p < hi) → f p = 0) : ∑ j : Fin W, f (A + j.val) = ∑ p ∈ Finset.Ico lo hi, f p := by
  have h := Finset.sum_Ico_eq_sum_range f A (A + W)
  rw [Nat.add_sub_cancel_left] at h
  rw [Fin.sum_univ_eq_sum_range (fun j => f (A + j)) W, ← h]
  refine (Finset.sum_subset (fun p hp => ?_) fun p hp hn => ?_).symm
  · have := Finset.mem_Ico.mp hp
    exact Finset.mem_Ico.mpr ⟨by omega, by omega⟩
  · have := Finset.mem_Ico.mp hp
    exact h0 p this.1 this.2 fun h => hn (Finset.mem_Ico.mpr h)

theorem sup_window {W A lo hi : ℕ} (f : ℕ → EReal) (hlo : A ≤ lo) (hhi : hi ≤ A + W)
    (h0 : ∀ p, A ≤ p → p < A + W → ¬(lo ≤ p ∧ p < hi) → f p = ⊥) :
    (Finset.univ.sup fun j : Fin W => f (A + j.val)) = (Finset.Ico lo hi).sup f := by
  apply le_antisymm
  · refine Finset.sup_le fun j _ => ?_
    by_cases h : lo ≤ A + j.val ∧ A + j.val < hi
    · exact Finset.le_sup (f := f) (Finset.mem_Ico.mpr h)
    · rw [h0 _ (by omega) (by omega) h]
      exact bot_le
  · refine Finset.sup_le fun p hp => ?_
    have hp := Finset.mem_Ico.mp hp
    have := Finset.le_sup (f := fun j : Fin W => f (A + j.val)) (Finset.mem_univ ⟨p - A, by omega⟩)
    simpa only [Nat.add_sub_cancel' (hlo.trans hp.1)] using this

/-- Keys whose score is minus infinity take no part. -/
theorem ofPowers_window {W A lo hi : ℕ} (S v : ℕ → EReal) (hlo : A ≤ lo) (hhi : hi ≤ A + W)
    (h0 : ∀ p, A ≤ p → p < A + W → ¬(lo ≤ p ∧ p < hi) → S p = ⊥) :
    ofPowers Finset.univ (fun j : Fin W => S (A + j.val)) (fun j : Fin W => v (A + j.val)) = ofPowers (Finset.Ico lo hi) S v := by
  unfold ofPowers
  rw [sup_window S hlo hhi h0,
    sum_window (fun p => Ideal.exp2 (S p - (Finset.Ico lo hi).sup S) * v p) hlo hhi fun p h1 h2 h => by
      rw [h0 p h1 h2 h, EReal.bot_sub]; exact zero_mul _,
    sum_window (fun p => Ideal.exp2 (S p - (Finset.Ico lo hi).sup S)) hlo hhi fun p h1 h2 h => by rw [h0 p h1 h2 h, EReal.bot_sub]; rfl]

theorem ofExps_window {W A lo hi : ℕ} (S v : ℕ → EReal) (hlo : A ≤ lo) (hhi : hi ≤ A + W) (hne : lo < hi)
    (h0 : ∀ p, A ≤ p → p < A + W → ¬(lo ≤ p ∧ p < hi) → S p = ⊥) (s : ℕ → ℝ) (hs : ∀ p ∈ Finset.Ico lo hi, S p = (s p : EReal)) :
    ofExps Finset.univ (fun j : Fin W => S (A + j.val)) (fun j : Fin W => v (A + j.val)) = ofExps (Finset.Ico lo hi) S v := by
  have hK : (Finset.Ico lo hi).Nonempty := Finset.nonempty_Ico.mpr hne
  have hL : (∑ p ∈ Finset.Ico lo hi, Ideal.exp (S p - (Finset.Ico lo hi).sup S)) ≠ 0 := by
    obtain ⟨p₀, hp₀, hM⟩ := sup_coe _ hK s
    rw [(Finset.sup_congr rfl hs).trans hM, Finset.sum_congr rfl fun p hp =>
      show Ideal.exp (S p - (s p₀ : EReal)) = ((Real.exp (s p - s p₀) : ℝ) : EReal) by rw [hs p hp, ← EReal.coe_sub]; rfl, ← coe_sum]
    exact_mod_cast (Finset.sum_pos (fun p _ => Real.exp_pos _) hK).ne'
  unfold ofExps
  rw [sup_window S hlo hhi h0,
    sum_window (fun p => Ideal.exp (S p - (Finset.Ico lo hi).sup S)) hlo hhi fun p h1 h2 h => by rw [h0 p h1 h2 h, EReal.bot_sub]; rfl,
    sum_window (fun p => Ideal.div (Ideal.exp (S p - (Finset.Ico lo hi).sup S))
      (∑ p' ∈ Finset.Ico lo hi, Ideal.exp (S p' - (Finset.Ico lo hi).sup S)) * v p) hlo hhi fun p h1 h2 h => by
      rw [h0 p h1 h2 h, EReal.bot_sub]
      unfold Ideal.div
      rw [if_neg hL, show Ideal.exp ⊥ = 0 from rfl, zero_mul, zero_mul]]

end Cert.Softmax

end
-- ==== Proof.Attn.Tile.lean ====
/- What the attention kernel's 1024 rows of a grid step are, as one function of the step's blocks: no window, no store. -/
module

public import proofs.«01_k».proof.Proof.Attn.Heads
public import proofs.«01_k».proof.Proof.Attn.Softmax

@[expose] public section

set_option maxRecDepth 16384

noncomputable section

namespace Cert.Attn

open Idealize.ShloMosaic Idealize.ShloMosaic.TcCoe Idealize.SL.Sem
open Cert.KernelIdeal Cert.KernelIdeal.Gen
open Cert.Softmax

theorem scale_real : Named.named (F := Ideal) κ "scale" (φ := .f32) 0x3E38AA3B#32 = (((1 / 8) * (Real.log 2)⁻¹ : ℝ) : EReal) := rfl

theorem log2e_real : Named.named (F := Ideal) κ "log2e" (φ := .f32) 0x3FB8AA3B#32 = (((Real.log 2)⁻¹ : ℝ) : EReal) := rfl

/-- Row `p` of a sequence's keys or values, counted from 512 rows before its first. -/
def rowAt (k : FVec Ideal S4096x512 .bf16) (p : ℕ) (l : Fin 512) : EReal :=
  if h : p - 512 < 4096 then k (ix2 ⟨p - 512, h⟩ l) else 0

/-- The bias of row `x` of pair of heads `g` at column `j` of its window. -/
def biasAt (b : FVec Ideal S4x512x768 .f32) (g : Fin 4) (x : Fin 512) (j : ℕ) : EReal :=
  if h : j < 768 then b (ix3 g x ⟨j, h⟩) else 0

/-- The bias is minus infinity at every key outside the 576 that the query's chunk sees. -/
def Banded (b : FVec Ideal S4x512x768 .f32) : Prop :=
  ∀ (g : Fin 4) (x : Fin 512) (j : Fin 768), ¬(x.val % 256 / 64 * 64 ≤ j.val ∧ j.val < x.val % 256 / 64 * 64 + 576) → b (ix3 g x j) = ⊥

/-- The score of query `r` of the step, in block `n` of the sequence's blocks of 256, against row `p`, in the head of lane `l`. -/
def tileScore (q : FVec Ideal S1024x512 .bf16) (k : FVec Ideal S4096x512 .bf16) (b : FVec Ideal S4x512x768 .f32) (n : ℕ) (r : Fin 1024)
    (l : Fin 512) (p : ℕ) : EReal :=
  (∑ d : Fin 64, q (ix2 r ⟨l.val / 64 * 64 + d.val, by omega⟩) * Named.named (F := Ideal) κ "scale" (φ := .f32) 0x3E38AA3B#32
      * rowAt k p ⟨l.val / 64 * 64 + d.val, by omega⟩)
    + biasAt b ⟨l.val / 128, by omega⟩ ⟨256 * (l.val / 64 % 2) + r.val % 256, by omega⟩ (p - 256 * n)
      * Named.named (F := Ideal) κ "log2e" (φ := .f32) 0x3FB8AA3B#32

/-- The first row that a query of chunk `c` sees. -/
def firstRow (c : ℕ) : ℕ := max 512 (64 * c)

/-- The step's row `r`: `n` is the number of its block of 256 among the sequence's. -/
def tileOut (q : FVec Ideal S1024x512 .bf16) (k v : FVec Ideal S4096x512 .bf16) (b : FVec Ideal S4x512x768 .f32) (g : FVec Ideal S1x512 .f32)
    (n : ℕ) (r : Fin 1024) (l : Fin 512) : EReal :=
  rowOut (fun l' => ofPowers (Finset.Ico (firstRow (4 * n + r.val % 256 / 64)) (64 * (4 * n + r.val % 256 / 64) + 576))
    (tileScore q k b n r l') fun p => rowAt v p l') (fun l' => g (ix2 0 l')) l

theorem tileScore_bot (q : FVec Ideal S1024x512 .bf16) (k : FVec Ideal S4096x512 .bf16) {b : FVec Ideal S4x512x768 .f32} (hb : Banded b)
    (n : ℕ) (r : Fin 1024) (l : Fin 512) (p : ℕ) (h1 : 256 * n ≤ p) (h2 : p < 256 * n + 768)
    (h : ¬(64 * (4 * n + r.val % 256 / 64) ≤ p ∧ p < 64 * (4 * n + r.val % 256 / 64) + 576)) : tileScore q k b n r l p = ⊥ := by
  have hj : p - 256 * n < 768 := by omega
  unfold tileScore biasAt
  rw [dif_pos hj, hb _ _ _ (by dsimp only; omega), log2e_real,
    EReal.bot_mul_coe_of_pos (inv_pos.mpr (Real.log_pos (by norm_num))), EReal.add_bot]

/-- A block's store: the windows of its keys, values and biases are those of rows `A` to `A + W`. -/
theorem blockOut_eq {W : ℕ} (fit : Fits W) {q : FVec Ideal S1024x512 .bf16} {k v : FVec Ideal S4096x512 .bf16}
    {b : FVec Ideal S4x512x768 .f32} (hb : Banded b) (g : FVec Ideal S1x512 .f32) (n s A : ℕ) (hs : s < 4) (hn : n < 16)
    (hA : A = max 512 (256 * n)) (hW : A + W = 256 * n + 768)
    (qw : FVec Ideal S256x512 .bf16) (kw vw : FVec Ideal (SWin W) .bf16) (bw : Fin 4 → FVec Ideal (SBias W) .f32)
    (gw : FVec Ideal S1x512 .f32)
    (hq : ∀ i x, qw (ix2 i x) = q (ix2 ⟨256 * s + i.val, by omega⟩ x))
    (hk : ∀ (j : Fin W) x, kw (ix2 j x) = k (ix2 ⟨A - 512 + j.val, by omega⟩ x))
    (hv : ∀ (j : Fin W) x, vw (ix2 j x) = v (ix2 ⟨A - 512 + j.val, by omega⟩ x))
    (hbw : ∀ (p : Fin 4) x (j : Fin W), bw p (ix3 0 x j) = b (ix3 p x ⟨768 - W + j.val, by omega⟩))
    (hg : ∀ x, gw (ix2 0 x) = g (ix2 0 x)) (i : Fin 256) (l : Fin 512) :
    blockOut (F := Ideal) fit qw kw vw (bw 0) (bw 1) (bw 2) (bw 3) gw (ix2 i l)
      = tileOut q k v b g n ⟨256 * s + i.val, by omega⟩ l := by
  have hi : (256 * s + i.val) % 256 = i.val := by omega
  rw [blockOut_apply]
  unfold tileOut
  simp only [hg]
  refine congrArg (rowOut · _ l) (funext fun l' => ?_)
  have hsc : laneScore qw kw bw i l' = fun j : Fin W => tileScore q k b n ⟨256 * s + i.val, by omega⟩ l' (A + j.val) := by
    funext j
    have e1 : A + j.val - 512 = A - 512 + j.val := by omega
    have e2 : A + j.val - 256 * n = 768 - W + j.val := by omega
    unfold laneScore tileScore rowAt biasAt
    simp only [hq, hk, hbw, e1, e2, hi]
    rw [dif_pos (by omega)]
    congr 1
    refine Finset.sum_congr rfl fun d _ => ?_
    rw [dif_pos (by omega)]
  have hva : (fun j : Fin W => vw (ix2 j l')) = fun j : Fin W => rowAt v (A + j.val) l' := by
    funext j
    have e1 : A + j.val - 512 = A - 512 + j.val := by omega
    unfold rowAt
    simp only [hv, e1]
    rw [dif_pos (by omega)]
  rw [hsc, hva]
  rw [hi]
  refine (ofPowers_window (tileScore q k b n ⟨256 * s + i.val, by omega⟩ l') (fun p => rowAt v p l') (lo := firstRow (4 * n + i.val / 64))
    (hi := 64 * (4 * n + i.val / 64) + 576) (A := A) (W := W) ?_ (by omega) fun p h1 h2 h => ?_)
  · unfold firstRow
    omega
  · refine tileScore_bot q k hb n _ l' p (by omega) (by omega) ?_
    unfold firstRow at h
    simp only [hi]
    omega

/-- The store as the kernel names it, a window of biases a pair of heads. -/
theorem blockOut_at {W : ℕ} (fit : Fits W) {q : FVec Ideal S1024x512 .bf16} {k v : FVec Ideal S4096x512 .bf16}
    {b : FVec Ideal S4x512x768 .f32} (hb : Banded b) (g : FVec Ideal S1x512 .f32) (n s A : ℕ) (hs : s < 4) (hn : n < 16)
    (hA : A = max 512 (256 * n)) (hW : A + W = 256 * n + 768)
    {qw : FVec Ideal S256x512 .bf16} {kw vw : FVec Ideal (SWin W) .bf16} {b0 b1 b2 b3 : FVec Ideal (SBias W) .f32}
    {gw : FVec Ideal S1x512 .f32}
    (hq : ∀ i x, qw (ix2 i x) = q (ix2 ⟨256 * s + i.val, by omega⟩ x))
    (hk : ∀ (j : Fin W) x, kw (ix2 j x) = k (ix2 ⟨A - 512 + j.val, by omega⟩ x))
    (hv : ∀ (j : Fin W) x, vw (ix2 j x) = v (ix2 ⟨A - 512 + j.val, by omega⟩ x))
    (hb0 : ∀ x (j : Fin W), b0 (ix3 0 x j) = b (ix3 0 x ⟨768 - W + j.val, by omega⟩))
    (hb1 : ∀ x (j : Fin W), b1 (ix3 0 x j) = b (ix3 1 x ⟨768 - W + j.val, by omega⟩))
    (hb2 : ∀ x (j : Fin W), b2 (ix3 0 x j) = b (ix3 2 x ⟨768 - W + j.val, by omega⟩))
    (hb3 : ∀ x (j : Fin W), b3 (ix3 0 x j) = b (ix3 3 x ⟨768 - W + j.val, by omega⟩))
    (hg : ∀ x, gw (ix2 0 x) = g (ix2 0 x)) (i : Fin 256) (l : Fin 512) (r : Fin 1024) (hr : r.val = 256 * s + i.val) :
    blockOut (F := Ideal) fit qw kw vw b0 b1 b2 b3 gw (ix2 i l) = tileOut q k v b g n r l := by
  have hlt : 256 * s + i.val < 1024 := by omega
  rw [show r = ⟨256 * s + i.val, hlt⟩ from Fin.ext hr]
  refine blockOut_eq fit hb g n s A hs hn hA hW qw kw vw ![b0, b1, b2, b3] gw hq hk hv (fun p => ?_) hg i l
  fin_cases p
  · exact hb0
  · exact hb1
  · exact hb2
  · exact hb3

end Cert.Attn

end
-- ==== Proof.Attn.Stored.lean ====
/- The four stored values of each way through the attention kernel's body, as the kernel builds them, are the block's definition. -/
module

public import proofs.«01_k».proof.Proof.Attn.Block

@[expose] public section

set_option maxRecDepth 65536

noncomputable section

namespace Cert.Attn

open Idealize.ShloMosaic Idealize.ShloMosaic.TcCoe Idealize.SL.Sem
open Cert.KernelIdeal Cert.KernelIdeal.Gen

variable {F : FTy → Type} [FloatOps F] [Named F] (q : Vec F S256x512 .bf16) (g : Vec F S1x512 .f32)

theorem stored_a0 (k v : Vec F S256x512 .bf16) (b0 b1 b2 b3 : Vec F S1x512x256 .f32) :
    k0_pay14 (k0_pay1 g) k v (k0_pay3 q) k0_pay4 k0_pay5 (k0_pay6 q k v b0) (k0_pay11 k0_pay4 k0_pay5 (k0_pay7 q) (k0_pay8 k) (k0_pay9 v) k0_pay10 b1) (k0_pay12 k v (k0_pay3 q) k0_pay4 k0_pay5 b2) (k0_pay13 k v (k0_pay3 q) k0_pay4 k0_pay5 b2) b3
      = blockOut fits256 q k v b0 b1 b2 b3 g := rfl

theorem stored_a1 (k v : Vec F S512x512 .bf16) (b0 b1 b2 b3 : Vec F S1x512x512 .f32) :
    k0_pay24 (k0_pay1 g) k v (k0_pay15 q) k0_pay16 k0_pay17 (k0_pay18 q k v b0) (k0_pay22 k0_pay16 k0_pay17 (k0_pay19 q) (k0_pay20 k) (k0_pay21 v) (FloatOps.ofBits FTy.bf16 0#16) b1) (k0_pay23 k v (k0_pay15 q) k0_pay16 k0_pay17 b2) b3
      = blockOut fits512 q k v b0 b1 b2 b3 g := rfl

theorem stored_a2 (k v : Vec F S768x512 .bf16) (b0 b1 b2 b3 : Vec F S1x512x768 .f32) :
    k0_pay35 (k0_pay1 g) k v (k0_pay25 q) k0_pay26 k0_pay27 (k0_pay28 q k v b0) (k0_pay32 k0_pay26 k0_pay27 (k0_pay29 q) (k0_pay30 k) (k0_pay31 v) b1) (k0_pay33 k (k0_pay25 q) k0_pay26 b2) (k0_pay34 v k0_pay27) (constant S512x256 FTy.f32 0#32) b3
      = blockOut fits768 q k v b0 b1 b2 b3 g := rfl

theorem stored_a3 (k v : Vec F S768x512 .bf16) (b0 b1 b2 b3 : Vec F S1x512x768 .f32) :
    k0_pay45 (k0_pay1 g) k v (k0_pay36 q) k0_pay37 k0_pay38 (k0_pay39 q k v b0) (k0_pay42 v k0_pay37 k0_pay38 (k0_pay40 q) (k0_pay41 k) b1) (k0_pay43 k (k0_pay36 q) k0_pay37 b2) (k0_pay44 v k0_pay38) b3
      = blockOut fits768 q k v b0 b1 b2 b3 g := rfl

theorem stored_b0 (k v : Vec F S768x512 .bf16) (b0 b1 b2 b3 : Vec F S1x512x768 .f32) :
    k0_pay59 (k0_pay1 g) (k0_pay57 k v (k0_pay46 q) k0_pay47 k0_pay48 (k0_pay52 k0_pay47 (k0_pay50 q k v b0) (k0_pay51 q k v b0)) (k0_pay53 k v (k0_pay46 q) k0_pay47 k0_pay48 b1) (k0_pay54 v) (k0_pay55 k (k0_pay46 q) k0_pay47 b2) (k0_pay56 k (k0_pay46 q) k0_pay47 b2) b3) (k0_pay58 k v (k0_pay46 q) k0_pay47 k0_pay48 (k0_pay52 k0_pay47 (k0_pay50 q k v b0) (k0_pay51 q k v b0)) (k0_pay53 k v (k0_pay46 q) k0_pay47 k0_pay48 b1) (k0_pay54 v) (k0_pay55 k (k0_pay46 q) k0_pay47 b2) (k0_pay56 k (k0_pay46 q) k0_pay47 b2) b3)
      = blockOut fits768 q k v b0 b1 b2 b3 g := rfl

theorem stored_b1 (k v : Vec F S768x512 .bf16) (b0 b1 b2 b3 : Vec F S1x512x768 .f32) :
    k0_pay71 (k0_pay1 g) (k0_pay70 k v (k0_pay60 q) k0_pay61 k0_pay62 (k0_pay66 k0_pay61 k0_pay62 (k0_pay63 v) (k0_pay64 q k b0) (k0_pay65 q k b0)) (k0_pay67 k v (k0_pay60 q) k0_pay61 k0_pay62 b1) (k0_pay68 v) (k0_pay69 k (k0_pay60 q) k0_pay61) b2 b3)
      = blockOut fits768 q k v b0 b1 b2 b3 g := rfl

theorem stored_b2 (k v : Vec F S768x512 .bf16) (b0 b1 b2 b3 : Vec F S1x512x768 .f32) :
    k0_pay83 (k0_pay1 g) k0_pay73 k0_pay74 (k0_pay77 k0_pay73 k0_pay74 (k0_pay75 v) (k0_pay76 q k) b0) (k0_pay78 k v (k0_pay72 q) k0_pay73 k0_pay74 b1) (k0_pay80 k v k0_pay73 k0_pay74 (k0_pay79 (k0_pay72 q)) b2) (k0_pay81 v) (k0_pay82 k (k0_pay72 q) k0_pay73 b3)
      = blockOut fits768 q k v b0 b1 b2 b3 g := rfl

theorem stored_b3 (k v : Vec F S768x512 .bf16) (b0 b1 b2 b3 : Vec F S1x512x768 .f32) :
    k0_pay2 g k0_pay85 k0_pay86 (k0_pay88 k v k0_pay85 k0_pay86 (k0_pay87 q) b0) (k0_pay91 k0_pay85 k0_pay86 (k0_pay89 v) (k0_pay90 k (k0_pay84 q) k0_pay85 b1)) (k0_pay92 k v (k0_pay84 q) k0_pay85 k0_pay86 b2) (k0_pay93 v) (k0_pay94 k (k0_pay84 q) k0_pay85) (k0_pay95 b3) (Named.named κ "log2e" 1069066811#32)
      = blockOut fits768 q k v b0 b1 b2 b3 g := rfl

end Cert.Attn

end
-- ==== Proof.Attn.Stores.lean ====
/- The four stores of each of the attention kernel's two ways through its body are the block's definition at the window each reads. -/
module

public import proofs.«01_k».proof.Proof.Attn.Tile
public import proofs.«01_k».proof.Proof.Attn.Stored
public import proofs.«01_k».proof.Proof.Gen.KernelIdeal.Frame
public import Idealize.ShloMosaic.Lib.Pipeline.ValueKit

@[expose] public section

set_option maxRecDepth 65536

noncomputable section

namespace Cert.Attn

open Idealize.ShloMosaic Idealize.ShloMosaic.TcCoe Idealize.SL.Sem
open Cert.KernelIdeal Cert.KernelIdeal.Gen

theorem coords2 {M N H V : ℕ} {o o' : ℕ} {i' : Fin M} {x' : Fin N} {i : Fin H} {x : Fin V} (hi : i'.val = o + i.val) (hx : x'.val = o' + x.val) :
    ∀ a : Fin 2, (ix2 i' x' a).val = (![o, o'] : Fin 2 → ℕ) a + (ix2 i x a).val := by
  intro a
  fin_cases a
  · exact hi
  · exact hx

theorem coords3 {M N K H V L : ℕ} {o o' o'' : ℕ} {i' : Fin M} {x' : Fin N} {y' : Fin K} {i : Fin H} {x : Fin V} {y : Fin L}
    (hi : i'.val = o + i.val) (hx : x'.val = o' + x.val) (hy : y'.val = o'' + y.val) :
    ∀ a : Fin 3, (ix3 i' x' y' a).val = (![o, o', o''] : Fin 3 → ℕ) a + (ix3 i x y a).val := by
  intro a
  fin_cases a
  · exact hi
  · exact hx
  · exact hy

variable (m : (ℓ : Loc nD τ sig) → Buf (Elt Ideal) ℓ)

theorem outs_A (c : Dev nD) (t : Fin cfg0.N) (h0 : t.val % 4 = 0) (h1 : ¬1 ≤ t.val % 4)
    (q : FVec Ideal S1024x512 .bf16) (k v : FVec Ideal S4096x512 .bf16) (b : FVec Ideal S4x512x768 .f32) (g : FVec Ideal S1x512 .f32)
    (hq : iblk m c 0 t = q) (hk : iblk m c 1 t = k) (hv : iblk m c 2 t = v) (hbi : iblk m c 3 t = b) (hg : iblk m c 4 t = g)
    (hb : Banded b) (r : Fin 1024) (l : Fin 512) :
    outsAt0 m c t.val t.isLt (ix2 r l) = tileOut q k v b g (4 * (t.val % 4) + r.val / 256) r l := by
  rw [outsAt0_A m c t h0 h1]
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t) (iblk m c 4 t))]
  unfold kernelRun0_A
  dsimp only
  sl_unfold_words
  simp only [View.readAt_eq_ld, (hs0_0 t).read_unread, (hs0_1 t).read_unread, (hs0_2 t).read_unread, (hs0_3 t).read_unread, (hs0_4 t).read_unread, hq, hk, hv, hbi, hg]
  canon_tiles x h
  case piece0 =>
    clear hq hk hv hbi hg
    idx_vars x
    obtain rfl : l = x1 := Fin.ext h1
    rw [stored_a3]
    refine blockOut_at fits768 hb _ (4 * (t.val % 4) + r.val / 256) 3 768 (by omega) (by omega) (by omega) (by omega)
      (fun i x => View.ld_unit_apply_of _ _ _ _ _ _ (coords2 rfl (Nat.zero_add _).symm))
      (fun j x => View.ld_unit_apply_of _ _ _ _ _ _ (coords2 rfl (Nat.zero_add _).symm))
      (fun j x => View.ld_unit_apply_of _ _ _ _ _ _ (coords2 rfl (Nat.zero_add _).symm))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x => View.ld_unit_apply_of _ _ _ _ _ _ (coords2 rfl (Nat.zero_add _).symm)) _ l r (by omega)
  case piece1 =>
    clear hq hk hv hbi hg
    idx_vars x
    obtain rfl : l = x1 := Fin.ext h1
    rw [stored_a2]
    refine blockOut_at fits768 hb _ (4 * (t.val % 4) + r.val / 256) 2 512 (by omega) (by omega) (by omega) (by omega)
      (fun i x => View.ld_unit_apply_of _ _ _ _ _ _ (coords2 rfl (Nat.zero_add _).symm))
      (fun j x => View.ld_unit_apply_of _ _ _ _ _ _ (coords2 rfl (Nat.zero_add _).symm))
      (fun j x => View.ld_unit_apply_of _ _ _ _ _ _ (coords2 rfl (Nat.zero_add _).symm))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x => View.ld_unit_apply_of _ _ _ _ _ _ (coords2 rfl (Nat.zero_add _).symm)) _ l r (by omega)
  case piece2 =>
    clear hq hk hv hbi hg
    idx_vars x
    obtain rfl : l = x1 := Fin.ext h1
    rw [stored_a1]
    refine blockOut_at fits512 hb _ (4 * (t.val % 4) + r.val / 256) 1 512 (by omega) (by omega) (by omega) (by omega)
      (fun i x => View.ld_unit_apply_of _ _ _ _ _ _ (coords2 rfl (Nat.zero_add _).symm))
      (fun j x => View.ld_unit_apply_of _ _ _ _ _ _ (coords2 rfl (Nat.zero_add _).symm))
      (fun j x => View.ld_unit_apply_of _ _ _ _ _ _ (coords2 rfl (Nat.zero_add _).symm))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x => View.ld_unit_apply_of _ _ _ _ _ _ (coords2 rfl (Nat.zero_add _).symm)) _ l r (by omega)
  case piece3 =>
    clear hq hk hv hbi hg
    idx_vars x
    obtain rfl : l = x1 := Fin.ext h1
    rw [stored_a0]
    refine blockOut_at fits256 hb _ (4 * (t.val % 4) + r.val / 256) 0 512 (by omega) (by omega) (by omega) (by omega)
      (fun i x => View.ld_unit_apply_of _ _ _ _ _ _ (coords2 rfl (Nat.zero_add _).symm))
      (fun j x => View.ld_unit_apply_of _ _ _ _ _ _ (coords2 rfl (Nat.zero_add _).symm))
      (fun j x => View.ld_unit_apply_of _ _ _ _ _ _ (coords2 rfl (Nat.zero_add _).symm))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x => View.ld_unit_apply_of _ _ _ _ _ _ (coords2 rfl (Nat.zero_add _).symm)) _ l r (by omega)

theorem tile_coord : ∀ t : Fin cfg0.N, (grid0.coords t 1).val = t.val % 4 := by
  decide +kernel

/-- Where a block's window of keys starts, as the kernel works it out in 32-bit words. -/
theorem start_word (t : Fin cfg0.N) (h1 : 1 ≤ t.val % 4) (s : ℕ) (hs : s < 4) :
    BitVec.toNat (Scalar.indexCast (Scalar.subi (Scalar.muli (Scalar.addi (Scalar.muli (BitVec.ofNat 32 (grid0.coords t 1).val) 4#32)
      (BitVec.ofNat 32 s)) 256#32) 512#32)) = 256 * (4 * (t.val % 4) + s) - 512 := by
  rw [tile_coord t]
  have h4 : t.val % 4 < 4 := Nat.mod_lt _ (by norm_num)
  generalize t.val % 4 = u at *
  interval_cases u <;> interval_cases s <;> rfl

theorem outs_B (c : Dev nD) (t : Fin cfg0.N) (h0 : ¬t.val % 4 = 0) (h1 : 1 ≤ t.val % 4)
    (q : FVec Ideal S1024x512 .bf16) (k v : FVec Ideal S4096x512 .bf16) (b : FVec Ideal S4x512x768 .f32) (g : FVec Ideal S1x512 .f32)
    (hq : iblk m c 0 t = q) (hk : iblk m c 1 t = k) (hv : iblk m c 2 t = v) (hbi : iblk m c 3 t = b) (hg : iblk m c 4 t = g)
    (hb : Banded b) (r : Fin 1024) (l : Fin 512) :
    outsAt0 m c t.val t.isLt (ix2 r l) = tileOut q k v b g (4 * (t.val % 4) + r.val / 256) r l := by
  rw [outsAt0_B m c t h0 h1]
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (iblk m c 4 t))]
  unfold kernelRun0_B
  dsimp only
  sl_unfold_words
  simp only [View.readAt_eq_ld, (hs0_0 t).read_unread, (hs0_1 t).read_unread, (hs0_2 t).read_unread, (hs0_3 t).read_unread, (hs0_4 t).read_unread, hq, hk, hv, hbi, hg]
  have h1' := h1
  canon_tiles x h
  case piece0 =>
    clear hq hk hv hbi hg
    idx_vars x
    obtain rfl : l = x1 := Fin.ext h1
    rw [stored_b3]
    refine blockOut_at fits768 hb _ (4 * (t.val % 4) + r.val / 256) 3 (256 * (4 * (t.val % 4) + 3)) (by omega) (by omega) (by omega) (by omega)
      (fun i x => View.ld_unit_apply_of _ _ _ _ _ _ (coords2 rfl (Nat.zero_add _).symm))
      (fun j x => View.ld_unit_apply_of _ _ _ _ _ _ (coords2 (by rw [start_word t h1' 3 (by omega)]) (Nat.zero_add _).symm))
      (fun j x => View.ld_unit_apply_of _ _ _ _ _ _ (coords2 (by rw [start_word t h1' 3 (by omega)]) (Nat.zero_add _).symm))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x => View.ld_unit_apply_of _ _ _ _ _ _ (coords2 rfl (Nat.zero_add _).symm)) _ l r (by omega)
  case piece1 =>
    clear hq hk hv hbi hg
    idx_vars x
    obtain rfl : l = x1 := Fin.ext h1
    rw [stored_b2]
    refine blockOut_at fits768 hb _ (4 * (t.val % 4) + r.val / 256) 2 (256 * (4 * (t.val % 4) + 2)) (by omega) (by omega) (by omega) (by omega)
      (fun i x => View.ld_unit_apply_of _ _ _ _ _ _ (coords2 rfl (Nat.zero_add _).symm))
      (fun j x => View.ld_unit_apply_of _ _ _ _ _ _ (coords2 (by rw [start_word t h1' 2 (by omega)]) (Nat.zero_add _).symm))
      (fun j x => View.ld_unit_apply_of _ _ _ _ _ _ (coords2 (by rw [start_word t h1' 2 (by omega)]) (Nat.zero_add _).symm))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x => View.ld_unit_apply_of _ _ _ _ _ _ (coords2 rfl (Nat.zero_add _).symm)) _ l r (by omega)
  case piece2 =>
    clear hq hk hv hbi hg
    idx_vars x
    obtain rfl : l = x1 := Fin.ext h1
    rw [stored_b1]
    refine blockOut_at fits768 hb _ (4 * (t.val % 4) + r.val / 256) 1 (256 * (4 * (t.val % 4) + 1)) (by omega) (by omega) (by omega) (by omega)
      (fun i x => View.ld_unit_apply_of _ _ _ _ _ _ (coords2 rfl (Nat.zero_add _).symm))
      (fun j x => View.ld_unit_apply_of _ _ _ _ _ _ (coords2 (by rw [start_word t h1' 1 (by omega)]) (Nat.zero_add _).symm))
      (fun j x => View.ld_unit_apply_of _ _ _ _ _ _ (coords2 (by rw [start_word t h1' 1 (by omega)]) (Nat.zero_add _).symm))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x => View.ld_unit_apply_of _ _ _ _ _ _ (coords2 rfl (Nat.zero_add _).symm)) _ l r (by omega)
  case piece3 =>
    clear hq hk hv hbi hg
    idx_vars x
    obtain rfl : l = x1 := Fin.ext h1
    rw [stored_b0]
    refine blockOut_at fits768 hb _ (4 * (t.val % 4) + r.val / 256) 0 (256 * (4 * (t.val % 4) + 0)) (by omega) (by omega) (by omega) (by omega)
      (fun i x => View.ld_unit_apply_of _ _ _ _ _ _ (coords2 rfl (Nat.zero_add _).symm))
      (fun j x => View.ld_unit_apply_of _ _ _ _ _ _ (coords2 (by rw [start_word t h1' 0 (by omega)]) (Nat.zero_add _).symm))
      (fun j x => View.ld_unit_apply_of _ _ _ _ _ _ (coords2 (by rw [start_word t h1' 0 (by omega)]) (Nat.zero_add _).symm))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x j => View.ld_unit_apply_of _ _ _ _ _ _ (coords3 rfl (Nat.zero_add _).symm rfl))
      (fun x => View.ld_unit_apply_of _ _ _ _ _ _ (coords2 rfl (Nat.zero_add _).symm)) _ l r (by omega)

end Cert.Attn

end
-- ==== Proof.Attn.Final.lean ====
/- The array the attention kernel leaves, as one function of the arguments' arrays. -/
module

public import proofs.«01_k».proof.Proof.Gen.KernelIdeal.Value
public import proofs.«01_k».proof.Proof.Attn.Host
public import proofs.«01_k».proof.Proof.Attn.Stores

@[expose] public section

set_option maxRecDepth 65536

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ)

/-- The step's queries: 1024 rows of the packed projection. -/
def qBlk (P : FVec Ideal S65536x3584 .bf16) (t : Fin 64) : FVec Ideal S1024x512 .bf16 :=
  fun x => P (ix2 ⟨1024 * t.val + (x 0).val, by have := (x 0).isLt; change (x 0).val < 1024 at this; omega⟩
    ⟨2048 + (x 1).val, by have := (x 1).isLt; change (x 1).val < 512 at this; omega⟩)

/-- A sequence's keys (`o` is 2560) or values (`o` is 3072). -/
def kBlk (P : FVec Ideal S65536x3584 .bf16) (o : ℕ) (ho : o ≤ 3072) (b : Fin 16) : FVec Ideal S4096x512 .bf16 :=
  fun x => P (ix2 ⟨4096 * b.val + (x 0).val, by have := (x 0).isLt; change (x 0).val < 4096 at this; omega⟩
    ⟨o + (x 1).val, by have := (x 1).isLt; change (x 1).val < 512 at this; omega⟩)

theorem idx0 : ∀ t : Fin cfg0.N, win0_0.index t = ![t.val, 4] := (by decide +kernel : ∀ t : Fin grid0.N, _)
theorem idx1 : ∀ t : Fin cfg0.N, win0_1.index t = ![t.val / 4, 5] := (by decide +kernel : ∀ t : Fin grid0.N, _)
theorem idx2 : ∀ t : Fin cfg0.N, win0_2.index t = ![t.val / 4, 6] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

theorem iblk_q (c : Dev nD) (t : Fin cfg0.N) :
    iblk m c 0 t = qBlk (m ((c : Thread nD τ).loc main_arg0)) ⟨t.val, t.isLt⟩ := by
  rw [← V_main_arg0 m c]
  funext x
  unfold qBlk
  blk_ext [iblk, idx0 t]

theorem iblk_k (c : Dev nD) (t : Fin cfg0.N) :
    iblk m c 1 t = kBlk (m ((c : Thread nD τ).loc main_arg0)) 2560 (by omega) ⟨t.val / 4, by have : t.val < 64 := t.isLt; omega⟩ := by
  rw [← V_main_arg0 m c]
  funext x
  unfold kBlk
  blk_ext [iblk, idx1 t]

theorem iblk_v (c : Dev nD) (t : Fin cfg0.N) :
    iblk m c 2 t = kBlk (m ((c : Thread nD τ).loc main_arg0)) 3072 (by omega) ⟨t.val / 4, by have : t.val < 64 := t.isLt; omega⟩ := by
  rw [← V_main_arg0 m c]
  funext x
  unfold kBlk
  blk_ext [iblk, idx2 t]

theorem iblk_b (c : Dev nD) (t : Fin cfg0.N) : iblk m c 3 t = V m c main_v29 := by
  funext x
  blk_ext [iblk, idx3 t]

theorem iblk_g (c : Dev nD) (t : Fin cfg0.N) : iblk m c 4 t = V m c main_v30 := by
  funext x
  blk_ext [iblk, idx4 t]

theorem banded (c : Dev nD) : Banded (V m c main_v29) := by
  intro g x j h
  rw [bias_at, if_neg h]

/-- Row `R` of the kernel's result. -/
def kernelAt (c : Dev nD) (R : Fin 65536) (l : Fin 512) : EReal :=
  tileOut (qBlk (m ((c : Thread nD τ).loc main_arg0)) ⟨R.val / 1024, by omega⟩)
    (kBlk (m ((c : Thread nD τ).loc main_arg0)) 2560 (by omega) ⟨R.val / 4096, by omega⟩)
    (kBlk (m ((c : Thread nD τ).loc main_arg0)) 3072 (by omega) ⟨R.val / 4096, by omega⟩)
    (V m c main_v29) (V m c main_v30) (R.val % 4096 / 256) ⟨R.val % 1024, by omega⟩ l

theorem kernelAt_eq (c : Dev nD) (t : Fin 64) (r : Fin 1024) (R : Fin 65536) (hR : R.val = 1024 * t.val + r.val) (l : Fin 512) :
    kernelAt m c R l = tileOut (qBlk (m ((c : Thread nD τ).loc main_arg0)) t)
      (kBlk (m ((c : Thread nD τ).loc main_arg0)) 2560 (by omega) ⟨t.val / 4, by omega⟩)
      (kBlk (m ((c : Thread nD τ).loc main_arg0)) 3072 (by omega) ⟨t.val / 4, by omega⟩)
      (V m c main_v29) (V m c main_v30) (4 * (t.val % 4) + r.val / 256) r l := by
  have h1 : (⟨R.val / 1024, by omega⟩ : Fin 64) = t := Fin.ext (by show R.val / 1024 = t.val; omega)
  have h2 : (⟨R.val / 4096, by omega⟩ : Fin 16) = ⟨t.val / 4, by omega⟩ := Fin.ext (by show R.val / 4096 = t.val / 4; omega)
  have h3 : R.val % 4096 / 256 = 4 * (t.val % 4) + r.val / 256 := by omega
  have h4 : (⟨R.val % 1024, by omega⟩ : Fin 1024) = r := Fin.ext (by show R.val % 1024 = r.val; omega)
  unfold kernelAt
  rw [h1, h2, h3, h4]

theorem outs_at (c : Dev nD) (t : Fin cfg0.N) (r : Fin 1024) (R : Fin 65536) (hR : R.val = 1024 * t.val + r.val) (l : Fin 512) :
    outsAt0 m c t.val t.isLt (ix2 r l) = kernelAt m c R l := by
  rw [kernelAt_eq m c ⟨t.val, t.isLt⟩ r R hR l]
  by_cases h0 : t.val % 4 = 0
  · exact outs_A m c t h0 (by omega) _ _ _ _ _ (iblk_q m c t) (iblk_k m c t) (iblk_v m c t) (iblk_b m c t) (iblk_g m c t)
      (banded m c) r l
  · exact outs_B m c t h0 (by omega) _ _ _ _ _ (iblk_q m c t) (iblk_k m c t) (iblk_v m c t) (iblk_b m c t) (iblk_g m c t)
      (banded m c) r l

theorem final (c : Dev nD) :
    (dats m 0 c).arrAt 5 cfg0.N = fun y : S65536x512.Idx => kernelAt m c (y 0) (y 1) := by
  refine (dats m 0 c).arrAt_eq_of_covers 5 _ (by decide +kernel) fun t hf y => ?_
  blk_simp
  rw [after0_5]
  change S1024x512.Idx at y
  have e0 : ((win0_5.blk t).view.emb y 0 : ℕ) = 1024 * t.val + (y 0).val := by
    blk_simp [idx5 t]
    omega
  have e1 : (win0_5.blk t).view.emb y 1 = y 1 := by
    refine Fin.ext ?_
    blk_simp [idx5 t]
  rw [e1]
  have hy : y = ix2 (y 0) (y 1) := by
    funext a
    match a with
    | ⟨0, _⟩ => rfl
    | ⟨1, _⟩ => rfl
  exact (congrArg (outsAt0 m c t.val t.isLt) hy).trans (outs_at m c t (y 0) _ e0 (y 1))

end Cert.Attn

end
-- ==== Proof.Attn.Words.lean ====
/- The 32-bit words the reference computes its places with, as numbers. -/
module

public import proofs.«01_k».proof.Proof.Gen.ReferenceIdeal.Read

@[expose] public section

set_option maxRecDepth 65536

noncomputable section

namespace Cert.Attn

open Idealize.ShloMosaic

/-- A row number of the padded keys, as the reference looks it up: a negative one would count from the end. -/
theorem row_word : ∀ n : Fin 4608,
    (Scalar.select (IntOp.cmpi .slt (BitVec.ofNat 32 n.val) 0#32) (IntOp.addi (BitVec.ofNat 32 n.val) 4608#32)
      (BitVec.ofNat 32 n.val)).toInt.toNat = n.val := by
  decide +kernel

/-- The row number of key `j` of chunk `c`'s window. -/
theorem row_sum (c : Fin 64) (j : Fin 576) :
    IntOp.addi (IntOp.muli (BitVec.ofNat 32 c.val) 64#32) (BitVec.ofNat 32 j.val) = BitVec.ofNat 32 (64 * c.val + j.val) := by
  refine BitVec.eq_of_toNat_eq ?_
  simp only [IntOp.addi, IntOp.muli, BitVec.toNat_add, BitVec.toNat_mul, BitVec.toNat_ofNat]
  omega

/-- The distance of key `j` from query `i`, 575 more than it so that it is a natural number. -/
theorem dist_word (i : Fin 64) (j : Fin 576) :
    IntOp.subi (IntOp.addi (BitVec.ofNat 32 i.val) 512#32) (BitVec.ofNat 32 j.val)
      = IntOp.subi (BitVec.ofNat 32 (575 + i.val - j.val)) 63#32 := by
  refine BitVec.eq_of_toNat_eq ?_
  simp only [IntOp.addi, IntOp.subi, BitVec.toNat_add, BitVec.toNat_sub, BitVec.toNat_ofNat]
  omega

/-- The column of biases: the distance held to 128 each way, and 128 added. -/
theorem col_word : ∀ n : Fin 640,
    (fun w : BitVec 32 => (Scalar.select (IntOp.cmpi .slt w 0#32) (IntOp.addi w 257#32) w).toInt.toNat)
      (IntOp.addi (IntOp.minsi 128#32 (IntOp.maxsi 4294967168#32 (IntOp.subi (BitVec.ofNat 32 n.val) 63#32))) 128#32)
      = min 256 (n.val + 65) := by
  decide +kernel

/-- Whether key `j` of chunk `c`'s window is one of the sequence's. -/
theorem valid_word : ∀ (c : Fin 64) (j : Fin 576),
    IntOp.cmpi .sge (BitVec.ofNat 32 j.val) (IntOp.muli (IntOp.subi 8#32 (BitVec.ofNat 32 c.val)) 64#32)
      = if 512 ≤ 64 * c.val + j.val then 1#1 else 0#1 := by
  decide +kernel

end Cert.Attn

end
-- ==== Proof.Attn.RefScores.lean ====
/- The reference's scores and values, at one query, one head and one key. -/
module

public import proofs.«01_k».proof.Proof.Attn.Words
public import proofs.«01_k».proof.Proof.Attn.Gathers
public import Idealize.ShloMosaic.Lib.KernelVsHost

@[expose] public section

set_option maxRecDepth 16384

noncomputable section

namespace Cert.Attn

open Idealize.ShloMosaic Idealize.ShloMosaic.ValueIdx
open Cert.ReferenceIdeal Cert.ReferenceIdeal.Gen Cert.ReferenceIdeal.Read

variable (x0 : S65536x3584.Idx → EReal) (x1 : S8x257.Idx → EReal)

/-- Row `p` of sequence `b`'s keys or values after 512 rows of zeros, at lane `l`. -/
def padRow (o : ℕ) (ho : o ≤ 3072) (b : Fin 16) (p : ℕ) (l : Fin 512) : EReal :=
  if h : 512 ≤ p ∧ p < 4608 then x0 (ix2 ⟨4096 * b.val + (p - 512), by omega⟩ ⟨o + l.val, by omega⟩) else 0

/-- The score of query `i` of chunk `c` against row `p`, in head `h`; minus infinity before the sequence's first row. -/
def refScore (b : Fin 16) (c : Fin 64) (h : Fin 8) (i : Fin 64) (p : ℕ) : EReal :=
  if 512 ≤ p then
    (∑ d : Fin 64, x0 (ix2 ⟨4096 * b.val + 64 * c.val + i.val, by omega⟩ ⟨2048 + (64 * h.val + d.val), by omega⟩)
        * padRow x0 2560 (by omega) b p ⟨64 * h.val + d.val, by omega⟩) * Ideal.ofBits .f32 0x3E000000#32
      + x1 (ix2 h ⟨min 256 (640 + i.val + 64 * c.val - p), by omega⟩)
  else ⊥

theorem row_at (c : Fin 64) (j : Fin 576) :
    (val_main_v25 (F := Ideal) (ix3 c j 0)).toInt.toNat = 64 * c.val + j.val := by
  have h := row_word ⟨64 * c.val + j.val, by omega⟩
  rw [← row_sum c j] at h
  exact h

theorem row_at' (c : Fin 64) (j : Fin 576) :
    (val_main_v33 (F := Ideal) (ix3 c j 0)).toInt.toNat = 64 * c.val + j.val := by
  have h := row_word ⟨64 * c.val + j.val, by omega⟩
  rw [← row_sum c j] at h
  exact h

theorem col_at (i : Fin 64) (j : Fin 576) :
    (val_main_v52 (F := Ideal) (ix3 i j 0)).toInt.toNat = min 256 (640 + i.val - j.val) := by
  have h := col_word ⟨575 + i.val - j.val, by omega⟩
  dsimp only at h
  rw [← dist_word i j] at h
  refine Eq.trans ?_ (h.trans (by omega))
  rfl

theorem valid_at (b : Fin 16) (c : Fin 64) (h : Fin 8) (i : Fin 64) (j : Fin 576) :
    val_main_call3_v1 (F := Ideal) (ix5 b c h i j) = if 512 ≤ 64 * c.val + j.val then 1#1 else 0#1 :=
  (valid_word c j : _)

/-- One of the three slices of the projection, a head at a time. -/
theorem q_at (b : Fin 16) (s : Fin 4096) (h : Fin 8) (d : Fin 64) :
    val_main_v2 (F := Ideal) x0 (ix4 b s h d) = x0 (ix2 ⟨4096 * b.val + s.val, by omega⟩ ⟨2048 + (64 * h.val + d.val), by omega⟩) := by
  rw [val_main_v2_apply]
  change x0 _ = _
  refine congrArg x0 (funext fun a => Fin.ext ?_)
  match a with
  | ⟨0, _⟩ => show 0 + ((((b.val * 4096 + s.val) * 8 + h.val) * 64 + d.val) / 512) = 4096 * b.val + s.val; omega
  | ⟨1, _⟩ => show 2048 + ((((b.val * 4096 + s.val) * 8 + h.val) * 64 + d.val) % 512) = 2048 + (64 * h.val + d.val); omega

theorem k_at (b : Fin 16) (s : Fin 4096) (h : Fin 8) (d : Fin 64) :
    val_main_v5 (F := Ideal) x0 (ix4 b s h d) = x0 (ix2 ⟨4096 * b.val + s.val, by omega⟩ ⟨2560 + (64 * h.val + d.val), by omega⟩) := by
  rw [val_main_v5_apply]
  change x0 _ = _
  refine congrArg x0 (funext fun a => Fin.ext ?_)
  match a with
  | ⟨0, _⟩ => show 0 + ((((b.val * 4096 + s.val) * 8 + h.val) * 64 + d.val) / 512) = 4096 * b.val + s.val; omega
  | ⟨1, _⟩ => show 2560 + ((((b.val * 4096 + s.val) * 8 + h.val) * 64 + d.val) % 512) = 2560 + (64 * h.val + d.val); omega

theorem v_at (b : Fin 16) (s : Fin 4096) (h : Fin 8) (d : Fin 64) :
    val_main_v8 (F := Ideal) x0 (ix4 b s h d) = x0 (ix2 ⟨4096 * b.val + s.val, by omega⟩ ⟨3072 + (64 * h.val + d.val), by omega⟩) := by
  rw [val_main_v8_apply]
  change x0 _ = _
  refine congrArg x0 (funext fun a => Fin.ext ?_)
  match a with
  | ⟨0, _⟩ => show 0 + ((((b.val * 4096 + s.val) * 8 + h.val) * 64 + d.val) / 512) = 4096 * b.val + s.val; omega
  | ⟨1, _⟩ => show 3072 + ((((b.val * 4096 + s.val) * 8 + h.val) * 64 + d.val) % 512) = 3072 + (64 * h.val + d.val); omega

/-- 512 rows of zeros before the rows, read at a row. -/
theorem pad_at (y : S16x4096x8x64.Idx → EReal) (z : S_.Idx → EReal) (hz : ∀ i, z i = 0) (b : Fin 16) (p : Fin 4608) (h : Fin 8) (d : Fin 64) :
    pad S16x4608x8x64 ![0, 512, 0, 0] ![0, 0, 0, 0] ![0, 0, 0, 0] y z pads_S16x4096x8x64_S16x4608x8x64_000_51200_000_000 h_S_ (ix4 b p h d)
      = if hp : 512 ≤ p.val then y (ix4 b ⟨p.val - 512, by omega⟩ h d) else 0 := by
  split_ifs with hp
  · refine pad_apply_of_inside _ _ _ _ _ _ _ _ _ fun a => ?_
    match a with
    | ⟨0, _⟩ => show b.val = 0 + b.val * (0 + 1); omega
    | ⟨1, _⟩ => show p.val = 512 + (p.val - 512) * (0 + 1); omega
    | ⟨2, _⟩ => show h.val = 0 + h.val * (0 + 1); omega
    | ⟨3, _⟩ => show d.val = 0 + d.val * (0 + 1); omega
  · refine (pad_apply_of_not_inside _ _ _ _ _ _ _ _ 1 fun hh => hp ?_).trans (hz _)
    exact hh.1

theorem zero_bits : ∀ i : S_.Idx, (val_main_call0_v0 (F := Ideal) i : EReal) = 0 := fun _ => by
  change (((0#32 : BitVec 32).toInt : ℝ) : EReal) = 0
  simp

theorem zero_bits' : ∀ i : S_.Idx, (val_main_call1_v0 (F := Ideal) i : EReal) = 0 := fun _ => by
  change (((0#32 : BitVec 32).toInt : ℝ) : EReal) = 0
  simp

theorem kb_at (b : Fin 16) (c : Fin 64) (j : Fin 576) (h : Fin 8) (d : Fin 64) :
    val_main_v26 (F := Ideal) x0 (ix5 b c j h d) = padRow x0 2560 (by omega) b (64 * c.val + j.val) ⟨64 * h.val + d.val, by omega⟩ := by
  unfold val_main_v26
  refine (ref_row_lookup _ _ b c j h d).trans ?_
  have e : (⟨min (val_main_v25 (F := Ideal) (ix3 c j 0)).toInt.toNat 4607, by omega⟩ : Fin 4608) = ⟨64 * c.val + j.val, by omega⟩ :=
    Fin.ext (by show min (val_main_v25 (F := Ideal) (ix3 c j 0)).toInt.toNat 4607 = 64 * c.val + j.val; rw [row_at]; omega)
  rw [e]
  unfold val_main_v19
  refine (pad_at _ _ zero_bits b _ h d).trans ?_
  unfold padRow
  by_cases hp : 512 ≤ 64 * c.val + j.val
  · rw [dif_pos hp, dif_pos ⟨hp, by omega⟩]
    exact k_at x0 b _ h d
  · rw [dif_neg hp, dif_neg (fun h' => hp h'.1)]

theorem vb_at (b : Fin 16) (c : Fin 64) (j : Fin 576) (h : Fin 8) (d : Fin 64) :
    val_main_v34 (F := Ideal) x0 (ix5 b c j h d) = padRow x0 3072 (by omega) b (64 * c.val + j.val) ⟨64 * h.val + d.val, by omega⟩ := by
  unfold val_main_v34
  refine (ref_row_lookup _ _ b c j h d).trans ?_
  have e : (⟨min (val_main_v33 (F := Ideal) (ix3 c j 0)).toInt.toNat 4607, by omega⟩ : Fin 4608) = ⟨64 * c.val + j.val, by omega⟩ :=
    Fin.ext (by show min (val_main_v33 (F := Ideal) (ix3 c j 0)).toInt.toNat 4607 = 64 * c.val + j.val; rw [row_at']; omega)
  rw [e]
  unfold val_main_v27
  refine (pad_at _ _ zero_bits' b _ h d).trans ?_
  unfold padRow
  by_cases hp : 512 ≤ 64 * c.val + j.val
  · rw [dif_pos hp, dif_pos ⟨hp, by omega⟩]
    exact v_at x0 b _ h d
  · rw [dif_neg hp, dif_neg (fun h' => hp h'.1)]

theorem bias_ref_at (h : Fin 8) (i : Fin 64) (j : Fin 576) :
    val_main_v53 (F := Ideal) x1 (ix3 h i j) = x1 (ix2 h ⟨min 256 (640 + i.val - j.val), by omega⟩) := by
  unfold val_main_v53
  refine (ref_bias_lookup _ _ h i j).trans ?_
  refine congrArg (fun k => x1 (ix2 h k)) (Fin.ext ?_)
  show min (val_main_v52 (F := Ideal) (ix3 i j 0)).toInt.toNat 256 = min 256 (640 + i.val - j.val)
  rw [col_at]
  omega

theorem dot_at (b : Fin 16) (c : Fin 64) (h : Fin 8) (i : Fin 64) (j : Fin 576) :
    val_main_v54 (F := Ideal) x0 (ix5 b c h i j)
      = ∑ d : Fin 64, x0 (ix2 ⟨4096 * b.val + 64 * c.val + i.val, by omega⟩ ⟨2048 + (64 * h.val + d.val), by omega⟩)
        * padRow x0 2560 (by omega) b (64 * c.val + j.val) ⟨64 * h.val + d.val, by omega⟩ := by
  rw [val_main_v54_apply]
  refine Finset.sum_congr rfl fun d _ => ?_
  refine congrArg₂ (· * ·) ?_ (Eq.trans (congrArg (val_main_v26 (F := Ideal) x0) (funext fun a => ?_)) (kb_at x0 b c j h d))
  · rw [val_main_v9_apply]
    refine (congrArg (val_main_v2 (F := Ideal) x0) (funext fun a => Fin.ext ?_)).trans
      ((q_at x0 b ⟨64 * c.val + i.val, by omega⟩ h d).trans ?_)
    · match a with
      | ⟨0, _⟩ => show (((((b.val * 64 + c.val) * 64 + i.val) * 8 + h.val) * 64 + d.val) / 2097152) = b.val; omega
      | ⟨1, _⟩ => show (((((b.val * 64 + c.val) * 64 + i.val) * 8 + h.val) * 64 + d.val) / 512 % 4096) = 64 * c.val + i.val; omega
      | ⟨2, _⟩ => show (((((b.val * 64 + c.val) * 64 + i.val) * 8 + h.val) * 64 + d.val) / 64 % 8) = h.val; omega
      | ⟨3, _⟩ => show (((((b.val * 64 + c.val) * 64 + i.val) * 8 + h.val) * 64 + d.val) % 64) = d.val; omega
    · exact congrArg (fun k => x0 (ix2 k _)) (Fin.ext (by show 4096 * b.val + (64 * c.val + i.val) = 4096 * b.val + 64 * c.val + i.val; omega))
  · match a with
    | ⟨0, _⟩ => rfl
    | ⟨1, _⟩ => rfl
    | ⟨2, _⟩ => rfl
    | ⟨3, _⟩ => rfl
    | ⟨4, _⟩ => rfl

theorem score_at (b : Fin 16) (c : Fin 64) (h : Fin 8) (i : Fin 64) (j : Fin 576) :
    val_main_v72 (F := Ideal) x0 x1 (ix5 b c h i j) = refScore x0 x1 b c h i (64 * c.val + j.val) := by
  rw [val_main_v72_apply, valid_at]
  unfold refScore
  by_cases hp : 512 ≤ 64 * c.val + j.val
  · rw [if_pos hp, if_pos hp]
    have hb : val_main_v58 (F := Ideal) x1 (ix5 b c h i j) = x1 (ix2 h ⟨min 256 (640 + i.val - j.val), by omega⟩) := by
      rw [val_main_v58_apply, val_main_v57_apply]
      refine Eq.trans (congrArg (val_main_v53 (F := Ideal) x1) (funext fun a => ?_)) (bias_ref_at x1 h i j)
      match a with
      | ⟨0, _⟩ => rfl
      | ⟨1, _⟩ => rfl
      | ⟨2, _⟩ => rfl
    have hc : (⟨min 256 (640 + i.val + 64 * c.val - (64 * c.val + j.val)), by omega⟩ : Fin 257) = ⟨min 256 (640 + i.val - j.val), by omega⟩ :=
      Fin.ext (by show min 256 (640 + i.val + 64 * c.val - (64 * c.val + j.val)) = min 256 (640 + i.val - j.val); omega)
    rw [hc, ← hb, ← dot_at x0 b c h i j]
    rfl
  · rw [if_neg hp, if_neg hp]
    change Ideal.ofBits .f32 0xFF800000#32 = ⊥
    simp [Ideal.ofBits, Ideal.ieee]

end Cert.Attn

end
-- ==== Proof.Attn.RefRow.lean ====
/- The reference's result, at one row and one lane. -/
module

public import proofs.«01_k».proof.Proof.Attn.RefScores
public import proofs.«01_k».proof.Proof.Attn.Softmax
public import proofs.«01_k».proof.Proof.Attn.Heads

@[expose] public section

set_option maxRecDepth 16384

noncomputable section

namespace Cert.Attn

open Idealize.ShloMosaic hiding ix1 ix2 ix3 ix4 ix5
open Idealize.ShloMosaic.ValueIdx Cert.Softmax
open Cert.ReferenceIdeal Cert.ReferenceIdeal.Gen Cert.ReferenceIdeal.Read

variable (x0 : S65536x3584.Idx → EReal) (x1 : S8x257.Idx → EReal) (x2 : S512.Idx → EReal)

/-- The greatest score of a query's window. -/
theorem max_at (b : Fin 16) (c : Fin 64) (h : Fin 8) (i : Fin 64) :
    val_main_v75 (F := Ideal) x0 x1 (ix4 b c h i) = Finset.univ.sup fun j : Fin 576 => refScore x0 x1 b c h i (64 * c.val + j.val) := by
  have h73 : val_main_v73 (F := Ideal) x0 x1 (ix4 b c h i) = Finset.univ.sup fun j : Fin 576 => refScore x0 x1 b c h i (64 * c.val + j.val) := by
    unfold val_main_v73
    rw [Host.reduce_eq_fold_single _ _ _ _ (by decide : S16x64x8x64x576.Reduces [4] S16x64x8x64)]
    have hb : (val_main_cst_15 (F := Ideal) (Shape.Idx.first h_S_) : EReal) = ⊥ := neg_inf_f32
    rw [hb]
    refine Finset.fold_congr fun j _ => ?_
    refine Eq.trans (congrArg (val_main_v72 (F := Ideal) x0 x1) (funext fun a => ?_)) (score_at x0 x1 b c h i j)
    match a with
    | ⟨0, _⟩ => rfl
    | ⟨1, _⟩ => rfl
    | ⟨2, _⟩ => rfl
    | ⟨3, _⟩ => rfl
    | ⟨4, _⟩ => rfl
  rw [val_main_v75_apply, h73]
  have hm : (val_main_v74 (F := Ideal) (ix4 b c h i) : EReal) = ⊥ := neg_inf_f32
  rw [hm]
  exact max_bot_left _

/-- A weight before the division. -/
theorem exp_at (b : Fin 16) (c : Fin 64) (h : Fin 8) (i : Fin 64) (j : Fin 576) :
    val_main_v79 (F := Ideal) x0 x1 (ix5 b c h i j)
      = Ideal.exp (refScore x0 x1 b c h i (64 * c.val + j.val)
        - Finset.univ.sup fun j : Fin 576 => refScore x0 x1 b c h i (64 * c.val + j.val)) := by
  rw [val_main_v79_apply, val_main_v78_apply, score_at, val_main_v77_apply, val_main_v76_apply]
  have e : val_main_v75 (F := Ideal) x0 x1 (idx_main_v76 (idx_main_v77 (ix5 b c h i j))) = val_main_v75 (F := Ideal) x0 x1 (ix4 b c h i) :=
    congrArg _ (funext fun a => by
      match a with
      | ⟨0, _⟩ => rfl
      | ⟨1, _⟩ => rfl
      | ⟨2, _⟩ => rfl
      | ⟨3, _⟩ => rfl)
  rw [e, max_at]
  rfl

theorem weight_at (b : Fin 16) (c : Fin 64) (h : Fin 8) (i : Fin 64) (j : Fin 576) :
    val_main_v83 (F := Ideal) x0 x1 (ix5 b c h i j)
      = Ideal.div (Ideal.exp (refScore x0 x1 b c h i (64 * c.val + j.val)
          - Finset.univ.sup fun j : Fin 576 => refScore x0 x1 b c h i (64 * c.val + j.val)))
        (∑ j : Fin 576, Ideal.exp (refScore x0 x1 b c h i (64 * c.val + j.val)
          - Finset.univ.sup fun j : Fin 576 => refScore x0 x1 b c h i (64 * c.val + j.val))) := by
  rw [val_main_v83_apply, val_main_v82_apply, val_main_v81_apply, val_main_v80_apply, exp_at]
  have hz : (val_main_cst_17 (F := Ideal) (Shape.Idx.first h_S_) : EReal) = 0 := by
    change Ideal.ofBits .f32 0x00000000#32 = 0
    simp [Ideal.ofBits, Ideal.ieee]
  rw [hz, zero_add]
  refine congrArg (Ideal.div _) (Finset.sum_congr rfl fun j' _ => ?_)
  refine Eq.trans (congrArg (val_main_v79 (F := Ideal) x0 x1) (funext fun a => ?_)) (exp_at x0 x1 b c h i j')
  match a with
  | ⟨0, _⟩ => rfl
  | ⟨1, _⟩ => rfl
  | ⟨2, _⟩ => rfl
  | ⟨3, _⟩ => rfl
  | ⟨4, _⟩ => rfl

/-- One head's output at one query and one lane of the head. -/
theorem head_at (b : Fin 16) (c : Fin 64) (h : Fin 8) (d i : Fin 64) :
    val_main_v84 (F := Ideal) x0 x1 (ix5 b c h d i)
      = ofExps Finset.univ (fun j : Fin 576 => refScore x0 x1 b c h i (64 * c.val + j.val))
        fun j : Fin 576 => padRow x0 3072 (by omega) b (64 * c.val + j.val) ⟨64 * h.val + d.val, by omega⟩ := by
  rw [val_main_v84_apply]
  unfold ofExps
  refine Finset.sum_congr rfl fun j _ => ?_
  rw [← weight_at]
  dsimp only
  rw [← vb_at x0 b c j h d, mul_comm]
  refine congrArg₂ (· * ·) (congrArg (val_main_v83 (F := Ideal) x0 x1) (funext fun a => ?_)) (congrArg (val_main_v34 (F := Ideal) x0) (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

/-- The heads' outputs of row `s` of sequence `b`, at lane `l` of the eight heads side by side. -/
def refHeads (b : Fin 16) (s : Fin 4096) (l : Fin 512) : EReal :=
  ofExps Finset.univ (fun j : Fin 576 => refScore x0 x1 b ⟨s.val / 64, by omega⟩ ⟨l.val / 64, by omega⟩ ⟨s.val % 64, by omega⟩ (64 * (s.val / 64) + j.val))
    fun j : Fin 576 => padRow x0 3072 (by omega) b (64 * (s.val / 64) + j.val) l

theorem heads_at (b : Fin 16) (s : Fin 4096) (l : Fin 512) :
    val_main_v86 (F := Ideal) x0 x1 (ix3 b s l) = refHeads x0 x1 b s l := by
  rw [val_main_v86_apply, val_main_v85_apply]
  refine Eq.trans (congrArg (val_main_v84 (F := Ideal) x0 x1) (funext fun a => Fin.ext ?_))
    ((head_at x0 x1 b ⟨s.val / 64, by omega⟩ ⟨l.val / 64, by omega⟩ ⟨l.val % 64, by omega⟩ ⟨s.val % 64, by omega⟩).trans ?_)
  · match a with
    | ⟨0, _⟩ => show ((b.val * 4096 + s.val) * 512 + l.val) / 2097152 = b.val; omega
    | ⟨1, _⟩ => show ((b.val * 4096 + s.val) * 512 + l.val) / 32768 % 64 = s.val / 64; omega
    | ⟨2, _⟩ => show ((b.val * 4096 + s.val) * 512 + l.val) / 64 % 8 = l.val / 64; omega
    | ⟨3, _⟩ => show ((b.val * 4096 + s.val) * 512 + l.val) % 64 = l.val % 64; omega
    | ⟨4, _⟩ => show ((b.val * 4096 + s.val) * 512 + l.val) / 512 % 64 = s.val % 64; omega
  · have hl : (⟨64 * (l.val / 64) + l.val % 64, by omega⟩ : Fin 512) = l := Fin.ext (by show 64 * (l.val / 64) + l.val % 64 = l.val; omega)
    unfold refHeads
    dsimp only
    rw [hl]

/-- The reference's result at row `R` and lane `l`. -/
theorem ref_at (R : Fin 65536) (l : Fin 512) :
    val_main_v101 (F := Ideal) x0 x1 x2 (ix2 R l)
      = rowOut (refHeads x0 x1 ⟨R.val / 4096, by omega⟩ ⟨R.val % 4096, by omega⟩) (fun l' => x2 (ix1 l')) l := by
  rw [val_main_v101_apply]
  change val_main_v100 (F := Ideal) x0 x1 x2 (ix2 R l) = _
  rw [val_main_v100_apply]
  have ei : idx_main_v100 (ix2 R l) = ix3 ⟨R.val / 4096, by omega⟩ ⟨R.val % 4096, by omega⟩ l := funext fun a => Fin.ext (by
    match a with
    | ⟨0, _⟩ => show (R.val * 512 + l.val) / 2097152 = R.val / 4096; omega
    | ⟨1, _⟩ => show (R.val * 512 + l.val) / 512 % 4096 = R.val % 4096; omega
    | ⟨2, _⟩ => show (R.val * 512 + l.val) % 512 = l.val; omega)
  rw [ei]
  generalize (⟨R.val / 4096, by omega⟩ : Fin 16) = b
  generalize (⟨R.val % 4096, by omega⟩ : Fin 4096) = s
  have hs : (val_main_v88 (F := Ideal) x0 x1 (ix2 b s) : EReal) = ∑ l' : Fin 512, refHeads x0 x1 b s l' * refHeads x0 x1 b s l' := by
    have hz : (val_main_cst_18 (F := Ideal) (Shape.Idx.first h_S_) : EReal) = 0 := by
      change Ideal.ofBits .f32 0x00000000#32 = 0
      simp [Ideal.ofBits, Ideal.ieee]
    rw [val_main_v88_apply, hz, zero_add]
    refine Finset.sum_congr rfl fun l' _ => ?_
    have e : idx_main_v88 (ix2 b s) l' = ix3 b s l' := funext fun a => by
      match a with
      | ⟨0, _⟩ => rfl
      | ⟨1, _⟩ => rfl
      | ⟨2, _⟩ => rfl
    rw [e, val_main_v87_apply, heads_at]
    rfl
  have e : idx_main_v89 (idx_main_v95 (ix3 b s l)) = ix2 b s := funext fun a => by
    match a with
    | ⟨0, _⟩ => rfl
    | ⟨1, _⟩ => rfl
  have eg : idx_main_v97 (idx_main_v98 (ix3 b s l)) = ix1 l := funext fun a => by
    match a with
    | ⟨0, _⟩ => rfl
  rw [val_main_v99_apply, val_main_v96_apply, heads_at, val_main_v95_apply, val_main_v94_apply, val_main_v93_apply, val_main_v91_apply,
    val_main_v89_apply, e, hs, val_main_v98_apply, val_main_v97_apply, eg]
  rfl

end Cert.Attn

end
-- ==== Proof.Attn.Bridge.lean ====
/- Row by row and lane by lane the kernel's result is the reference's, wherever the scores are finite. -/
module

public import proofs.«01_k».proof.Proof.Attn.Final
public import proofs.«01_k».proof.Proof.Attn.RefRow

@[expose] public section

set_option maxRecDepth 16384

noncomputable section

namespace Cert.Attn

open Idealize.ShloMosaic Idealize.ShloMosaic.TcCoe Idealize.SL.Sem Cert.Softmax
open Cert.KernelIdeal Cert.KernelIdeal.Gen

theorem eighth : Ideal.ofBits .f32 0x3E000000#32 = ((1 / 8 : ℝ) : EReal) := by
  simp [Ideal.ofBits, Ideal.ieee, -EReal.coe_mul]
  norm_num

/-- The kernel's score of real queries, keys and bias. -/
theorem kernel_real (q k : Fin 64 → ℝ) (b L : ℝ) :
    (∑ d, (q d : EReal) * ((1 / 8 * L : ℝ) : EReal) * (k d : EReal)) + (b : EReal) * (L : EReal)
      = ((((∑ d, q d * k d) * (1 / 8) + b) * L : ℝ) : EReal) := by
  simp only [← EReal.coe_mul, ← coe_sum, ← EReal.coe_add]
  refine congrArg _ ?_
  rw [add_mul, Finset.sum_mul, Finset.sum_mul]
  refine congrArg (· + _) (Finset.sum_congr rfl fun d _ => ?_)
  ring

/-- The reference's. -/
theorem reference_real (q k : Fin 64 → ℝ) (b : ℝ) :
    (∑ d, (q d : EReal) * (k d : EReal)) * ((1 / 8 : ℝ) : EReal) + (b : EReal) = (((∑ d, q d * k d) * (1 / 8) + b : ℝ) : EReal) := by
  simp only [← EReal.coe_mul, ← coe_sum, ← EReal.coe_add]

variable (m : (ℓ : Loc nD τ sig) → Buf (Elt Ideal) ℓ)

/-- The packed projection and the bias table, as the launch finds them. -/
abbrev proj (c : Dev nD) : FVec Ideal S65536x3584 .bf16 := m ((c : Thread nD τ).loc main_arg0)
abbrev table (c : Dev nD) : FVec Ideal S8x257 .f32 := m ((c : Thread nD τ).loc main_arg1)

/-- The score of row `R` against row `p` of its sequence, in the head of lane `l`, as a real number. -/
def realScore (c : Dev nD) (R : Fin 65536) (l : Fin 512) (p : ℕ) : ℝ :=
  (∑ d : Fin 64, (proj m c (ix2 R ⟨2048 + (64 * (l.val / 64) + d.val), by omega⟩)).toReal
      * (proj m c (ix2 ⟨4096 * (R.val / 4096) + min (p - 512) 4095, by omega⟩ ⟨2560 + (64 * (l.val / 64) + d.val), by omega⟩)).toReal) * (1 / 8)
    + (table m c (ix2 ⟨l.val / 64, by omega⟩ ⟨min 256 (640 + R.val % 4096 - p), by omega⟩)).toReal

/-- Every query, key and bias is a real. -/
def Finite (x0 : FVec Ideal S65536x3584 .bf16) (x1 : FVec Ideal S8x257 .f32) : Prop :=
  (∀ (R : Fin 65536) (l : Fin 1024), x0 (ix2 R ⟨2048 + l.val, by omega⟩) ≠ ⊤ ∧ x0 (ix2 R ⟨2048 + l.val, by omega⟩) ≠ ⊥)
    ∧ ∀ (g : Fin 8) (j : Fin 257), x1 (ix2 g j) ≠ ⊤ ∧ x1 (ix2 g j) ≠ ⊥

variable {m}

theorem proj_real {c : Dev nD} (hf : Finite (proj m c) (table m c)) (R R' : Fin 65536) (l l' : Fin 3584) (hR : R.val = R'.val) (hl : l.val = l'.val)
    (h : 2048 ≤ l.val ∧ l.val < 3072) :
    proj m c (ix2 R l) = (((proj m c (ix2 R' l')).toReal : ℝ) : EReal) := by
  obtain rfl : R = R' := Fin.ext hR
  obtain rfl : l = l' := Fin.ext hl
  have := hf.1 R ⟨l.val - 2048, by omega⟩
  have e : (⟨2048 + (l.val - 2048), by omega⟩ : Fin 3584) = l := Fin.ext (by show 2048 + (l.val - 2048) = l.val; omega)
  dsimp only at this
  rw [e] at this
  exact (EReal.coe_toReal this.1 this.2).symm

theorem table_real {c : Dev nD} (hf : Finite (proj m c) (table m c)) (g g' : Fin 8) (j j' : Fin 257) (hg : g.val = g'.val) (hj : j.val = j'.val) :
    table m c (ix2 g j) = (((table m c (ix2 g' j')).toReal : ℝ) : EReal) := by
  obtain rfl : g = g' := Fin.ext hg
  obtain rfl : j = j' := Fin.ext hj
  exact (EReal.coe_toReal (hf.2 g j).1 (hf.2 g j).2).symm

theorem kernel_score {c : Dev nD} (hf : Finite (proj m c) (table m c)) (R : Fin 65536) (l : Fin 512) (p : ℕ) (h1 : 512 ≤ p)
    (h2 : 64 * (R.val % 4096 / 64) ≤ p) (h3 : p < 64 * (R.val % 4096 / 64) + 576) :
    tileScore (qBlk (proj m c) ⟨R.val / 1024, by omega⟩) (kBlk (proj m c) 2560 (by omega) ⟨R.val / 4096, by omega⟩) (V m c main_v29)
        (R.val % 4096 / 256) ⟨R.val % 1024, by omega⟩ l p
      = ((realScore m c R l p * (Real.log 2)⁻¹ : ℝ) : EReal) := by
  have hj : p - 256 * (R.val % 4096 / 256) < 768 := by omega
  have hb : biasAt (V m c main_v29) ⟨l.val / 128, by omega⟩ ⟨256 * (l.val / 64 % 2) + R.val % 1024 % 256, by omega⟩ (p - 256 * (R.val % 4096 / 256))
      = (((table m c (ix2 ⟨l.val / 64, by omega⟩ ⟨min 256 (640 + R.val % 4096 - p), by omega⟩)).toReal : ℝ) : EReal) := by
    unfold biasAt
    rw [dif_pos hj, bias_at, if_pos (by dsimp only; omega)]
    refine table_real hf _ _ _ _ ?_ ?_
    · dsimp only; omega
    · unfold biasCol; dsimp only; omega
  unfold tileScore realScore
  rw [scale_real, log2e_real, hb, ← kernel_real]
  refine congrArg (· + _) (Finset.sum_congr rfl fun d _ => ?_)
  refine congrArg₂ (· * ·) (congrArg (· * _) ?_) ?_
  · unfold qBlk
    refine proj_real hf _ _ _ _ ?_ ?_ ?_
    · show 1024 * (R.val / 1024) + R.val % 1024 = R.val; omega
    · show 2048 + (l.val / 64 * 64 + d.val) = 2048 + (64 * (l.val / 64) + d.val); omega
    · show 2048 ≤ 2048 + (l.val / 64 * 64 + d.val) ∧ 2048 + (l.val / 64 * 64 + d.val) < 3072; omega
  · unfold rowAt
    rw [dif_pos (by omega)]
    unfold kBlk
    refine proj_real hf _ _ _ _ ?_ ?_ ?_
    · show 4096 * (R.val / 4096) + (p - 512) = 4096 * (R.val / 4096) + min (p - 512) 4095; omega
    · show 2560 + (l.val / 64 * 64 + d.val) = 2560 + (64 * (l.val / 64) + d.val); omega
    · show 2048 ≤ 2560 + (l.val / 64 * 64 + d.val) ∧ 2560 + (l.val / 64 * 64 + d.val) < 3072; omega

theorem reference_score {c : Dev nD} (hf : Finite (proj m c) (table m c)) (R : Fin 65536) (l : Fin 512) (p : ℕ) (h1 : 512 ≤ p)
    (h2 : 64 * (R.val % 4096 / 64) ≤ p) (h3 : p < 64 * (R.val % 4096 / 64) + 576) :
    refScore (proj m c) (table m c) ⟨R.val / 4096, by omega⟩ ⟨R.val % 4096 / 64, by omega⟩ ⟨l.val / 64, by omega⟩ ⟨R.val % 4096 % 64, by omega⟩ p
      = (realScore m c R l p : EReal) := by
  unfold refScore realScore
  rw [if_pos h1, eighth, ← reference_real]
  refine congrArg₂ (· + ·) (congrArg (· * _) (Finset.sum_congr rfl fun d _ => congrArg₂ (· * ·) ?_ ?_)) ?_
  · refine proj_real hf _ _ _ _ ?_ ?_ ?_
    · show 4096 * (R.val / 4096) + 64 * (R.val % 4096 / 64) + R.val % 4096 % 64 = R.val; omega
    · rfl
    · show 2048 ≤ 2048 + (64 * (l.val / 64) + d.val) ∧ 2048 + (64 * (l.val / 64) + d.val) < 3072; omega
  · unfold padRow
    rw [dif_pos (by omega)]
    refine proj_real hf _ _ _ _ ?_ ?_ ?_
    · show 4096 * (R.val / 4096) + (p - 512) = 4096 * (R.val / 4096) + min (p - 512) 4095; omega
    · rfl
    · show 2048 ≤ 2560 + (64 * (l.val / 64) + d.val) ∧ 2560 + (64 * (l.val / 64) + d.val) < 3072; omega
  · refine table_real hf _ _ _ _ rfl ?_
    show min 256 (640 + R.val % 4096 % 64 + 64 * (R.val % 4096 / 64) - p) = min 256 (640 + R.val % 4096 - p); omega

/-- One lane of a row before the norm. -/
theorem heads_eq {c : Dev nD} (hf : Finite (proj m c) (table m c)) (R : Fin 65536) (l : Fin 512) :
    ofPowers (Finset.Ico (firstRow (R.val % 4096 / 64)) (64 * (R.val % 4096 / 64) + 576))
        (tileScore (qBlk (proj m c) ⟨R.val / 1024, by omega⟩) (kBlk (proj m c) 2560 (by omega) ⟨R.val / 4096, by omega⟩) (V m c main_v29)
          (R.val % 4096 / 256) ⟨R.val % 1024, by omega⟩ l)
        (fun p => rowAt (kBlk (proj m c) 3072 (by omega) ⟨R.val / 4096, by omega⟩) p l)
      = refHeads (proj m c) (table m c) ⟨R.val / 4096, by omega⟩ ⟨R.val % 4096, by omega⟩ l := by
  have hlo : 64 * (R.val % 4096 / 64) ≤ firstRow (R.val % 4096 / 64) := by unfold firstRow; omega
  have hlo' : 512 ≤ firstRow (R.val % 4096 / 64) := by unfold firstRow; omega
  have hne : firstRow (R.val % 4096 / 64) < 64 * (R.val % 4096 / 64) + 576 := by unfold firstRow; omega
  have hs : ∀ p ∈ Finset.Ico (firstRow (R.val % 4096 / 64)) (64 * (R.val % 4096 / 64) + 576),
      refScore (proj m c) (table m c) ⟨R.val / 4096, by omega⟩ ⟨R.val % 4096 / 64, by omega⟩ ⟨l.val / 64, by omega⟩ ⟨R.val % 4096 % 64, by omega⟩ p
        = (realScore m c R l p : EReal) := fun p hp => by
    have := Finset.mem_Ico.mp hp
    exact reference_score hf R l p (by omega) (by omega) (by omega)
  unfold refHeads
  refine Eq.trans ?_ (ofExps_window
    (refScore (proj m c) (table m c) ⟨R.val / 4096, by omega⟩ ⟨R.val % 4096 / 64, by omega⟩ ⟨l.val / 64, by omega⟩ ⟨R.val % 4096 % 64, by omega⟩)
    (fun p => padRow (proj m c) 3072 (by omega) ⟨R.val / 4096, by omega⟩ p l) hlo (le_refl _) hne (fun p h1 h2 h => ?_) (realScore m c R l) hs).symm
  · refine ofPowers_eq _ (Finset.nonempty_Ico.mpr hne) (realScore m c R l) _ _ _ _ (fun p hp => ?_) hs fun p hp => ?_
    · have := Finset.mem_Ico.mp hp
      exact kernel_score hf R l p (by omega) (by omega) (by omega)
    · have := Finset.mem_Ico.mp hp
      unfold rowAt padRow
      rw [dif_pos (by omega), dif_pos (by omega)]
      rfl
  · unfold refScore
    rw [if_neg]
    unfold firstRow at h
    omega

variable (m)

/-- The kernel's row is the norm of the reference's heads. -/
theorem kernelAt_ref {c : Dev nD} (hf : Finite (proj m c) (table m c)) (R : Fin 65536) (l : Fin 512) :
    kernelAt m c R l = rowOut (refHeads (proj m c) (table m c) ⟨R.val / 4096, by omega⟩ ⟨R.val % 4096, by omega⟩)
      (fun l' => m ((c : Thread nD τ).loc main_arg2) (ix1 l')) l := by
  have hC : 4 * (R.val % 4096 / 256) + R.val % 1024 % 256 / 64 = R.val % 4096 / 64 := by omega
  unfold kernelAt tileOut
  dsimp only
  rw [hC]
  refine congrArg₂ (rowOut · · l) (funext fun l' => heads_eq hf R l') (funext fun l' => gain_at m c l')

end Cert.Attn

end
-- ==== Proof.Attn.Finite.lean ====
/- What the precondition says: every query, every key and every bias is a real number. -/
module

public import proofs.«01_k».proof.Pre_finite_scores
public import Idealize.ShloMosaic.Lib.ReduceAll
public import Idealize.ShloMosaic.Lib.KernelVsHost

@[expose] public section

set_option maxRecDepth 16384

noncomputable section

namespace Cert.Attn

open Idealize.ShloMosaic Idealize.ShloMosaic.ValueIdx Cert.Pre_finite_scores

/-- The side conditions of the precondition's operations. -/
theorem pre_facts : Cert.Pre_finite_scores.Facts where
  slices_S65536x3584_S65536x1024_0_2048 := by decide
  bitsLt_bf16_f32 := by decide
  bcast_S_S65536x1024 := by decide
  reducesTo_S65536x1024_S_d0_1 := by decide
  h_S_ := by decide
  bcast_S_S8x257 := by decide
  reducesTo_S8x257_S_d0_1 := by decide

/-- An extended real whose size is below infinity is a real. -/
theorem real_of_size (x : EReal) (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  constructor
  · rintro rfl
    simp [Ideal.cmp] at h
  · rintro rfl
    simp [Ideal.cmp] at h

/-- Queries and keys (columns 2048 to 3071 of the packed projection) and biases are reals. -/
theorem finite_of_pre [Cert.Pre_finite_scores.Facts] (x0 : FVec Ideal S65536x3584 .bf16) (x1 : FVec Ideal S8x257 .f32) (x2 : FVec Ideal S512 .f32)
    (h : Cert.Pre_finite_scores.fn (F := Ideal) x0 x1 x2 = fun _ => 1#1) :
    (∀ (R : Fin 65536) (l : Fin 1024), x0 (ix2 R ⟨2048 + l.val, by omega⟩) ≠ ⊤ ∧ x0 (ix2 R ⟨2048 + l.val, by omega⟩) ≠ ⊥)
      ∧ ∀ (g : Fin 8) (j : Fin 257), x1 (ix2 g j) ≠ ⊤ ∧ x1 (ix2 g j) ≠ ⊥ := by
  haveI : Subsingleton S_.Idx := ⟨fun a b => funext fun i => i.elim0⟩
  have h0 := congrFun h ix0
  obtain ⟨ha, hb⟩ := IntOp.andi_eq_one.1 h0
  constructor
  · intro R l
    have e := Host.reduce_andi_all _ _ _ _ _ ha (ix2 R l)
    refine real_of_size _ (Eq.trans ?_ e)
    refine congrArg (fun w => Ideal.cmp .olt (max w (-w)) (Ideal.ofBits .f32 0x7F800000#32)) (congrArg x0 (funext fun a => Fin.ext ?_))
    match a with
    | ⟨0, _⟩ => show R.val = 0 + R.val; omega
    | ⟨1, _⟩ => rfl
  · intro g j
    exact real_of_size _ (Host.reduce_andi_all _ _ _ _ _ hb (ix2 g j))

end Cert.Attn

end
-- ==== Proof.Proj.Norm.lean ====
/- A row scaled by the root of its mean square, and by a gain: what the layer's projections are taken of. -/
module

public import Idealize.ShloMosaic.Lib.Pipeline.ValueKit

@[expose] public section

noncomputable section

namespace Cert.Norm

open Idealize.ShloMosaic

/-- The row `x`, divided by the root of its mean square and multiplied by the gain `g`, at lane `k`. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The scaled row times a column of weights. -/
def proj (x g w : Fin 1024 → EReal) : EReal := ∑ k, normed x g k * w k

theorem zero2 : (![0, 0] : Fin 2 → ℕ) = fun _ => 0 := by
  funext a
  fin_cases a <;> rfl

end Cert.Norm

end
-- ==== Proof.Proj.InProj.lean ====
/- The kernel of the packed projection: what a step stores, and the array it leaves. -/
module

public import proofs.«01_k».proof.Proof.Proj.Norm
public import proofs.«01_k».proof.Proof.Gen.InProjIdeal.Value
public import proofs.«01_k».proof.Proof.Gen.InProjReferenceIdeal.Read
public import Idealize.ShloMosaic.Lib.Pipeline.ValueKit
public import Idealize.ShloMosaic.Lib.StableHlo.ReadAt

@[expose] public section

set_option maxRecDepth 65536

noncomputable section

namespace Cert.InProj

open Idealize.ShloMosaic Idealize.ShloMosaic.TcCoe Idealize.SL.Sem
open Cert.InProjIdeal Cert.InProjIdeal.Gen Cert.Norm

theorem pay5_at (x : FVec Ideal S1024x1024 .f32) (g : FVec Ideal S1x1024 .f32) (r k : Fin 1024) :
    k0_pay5 (F := Ideal) x g (ix2 r k) = normed (fun j => x (ix2 r j)) (fun j => g (ix2 0 j)) k := by
  pointwise [k0_pay5]
  rfl

/-- A tile's product: the scaled rows times a chunk of the weight's columns. -/
theorem pay_at (a : FVec Ideal S1024x1024 .bf16) (w : FVec Ideal S1024x512 .bf16) (r : Fin 1024) (l : Fin 512) :
    k0_pay1 (F := Ideal) a w (ix2 r l) = ∑ k, a (ix2 r k) * w (ix2 k l) := by
  pointwise [k0_pay1]

theorem out_at (x : Vec Ideal S1024x1024 .f32) (g : Vec Ideal S1x1024 .f32) (w : Vec Ideal S1024x3584 .bf16) (r : Fin 1024) (l : Fin 3584) :
    out0_3 (F := Ideal) x g w (ix2 r l) = proj (fun j => x (ix2 r j)) (fun j => g (ix2 0 j)) fun k => w (ix2 k l) := by
  have hx : View.ld (Val := Elt Ideal) (e' := .f32) x r0_0 = x := View.ld_unit_zero zero2 _ x
  have hg : View.ld (Val := Elt Ideal) (e' := .f32) g r0_1 = g := View.ld_unit_zero zero2 _ g
  unfold proj
  simp only [← pay5_at]
  unfold_out out0_3
  rw [hx, hg]
  clear hx hg
  canon_tiles y h
  all_goals
    idx_vars y
    obtain rfl : r = y0 := Fin.ext (by omega)
    refine (pay_at _ _ _ _).trans (Finset.sum_congr rfl fun k _ => congrArg (k0_pay5 (F := Ideal) x g (ix2 r k) * ·) ?_)
    refine View.ld_unit_apply_of _ _ _ _ _ _ fun a => ?_
    fin_cases a
    · exact (Nat.zero_add _).symm
    · first
        | exact h1
        | exact h1.trans (Nat.zero_add _).symm

variable (m : (ℓ : Loc nD τ sig) → Buf (Elt Ideal) ℓ)

theorem gain_at (c : Dev nD) (l : Fin 1024) : V m c main_v0 (ix2 0 l) = m ((c : Thread nD τ).loc main_arg1) (ix1 l) := by
  unfold V
  after_reads_at

theorem weights_at (c : Dev nD) (i : Fin 1024) (j : Fin 3584) : V m c main_v1 (ix2 i j) = m ((c : Thread nD τ).loc main_arg2) (ix2 i j) := by
  unfold V
  after_reads_at

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- Row `R` of the kernel's result, at lane `l`. -/
def kernelAt (X : FVec Ideal S65536x1024 .f32) (g : FVec Ideal S1024 .f32) (w : FVec Ideal S1024x3584 .f32) (R : Fin 65536) (l : Fin 3584) : EReal :=
  proj (fun j => X (ix2 R j)) (fun j => g (ix1 j)) fun k => w (ix2 k l)

theorem final (c : Dev nD) :
    (dats m 0 c).arrAt 3 cfg0.N = fun y : S65536x3584.Idx => kernelAt (m ((c : Thread nD τ).loc main_arg0)) (m ((c : Thread nD τ).loc main_arg1))
      (m ((c : Thread nD τ).loc main_arg2)) (y 0) (y 1) := by
  refine (dats m 0 c).arrAt_eq_of_covers 3 _ (by decide +kernel) fun t hf y => ?_
  blk_simp
  rw [after0_3]
  change S1024x3584.Idx at y
  have ht : t.val < 64 := t.isLt
  idx_vars y
  have e0' : ((win0_3.blk t).view.emb (ix2 y0 y1) 0 : ℕ) = 1024 * t.val + y0.val := by
    blk_simp [idx3 t]
    omega
  have e0 : (win0_3.blk t).view.emb (ix2 y0 y1) 0 = (⟨1024 * t.val + y0.val, by omega⟩ : Fin 65536) := Fin.ext e0'
  have e1 : (win0_3.blk t).view.emb (ix2 y0 y1) 1 = y1 := by
    refine Fin.ext ?_
    blk_simp [idx3 t]
  rw [e0, e1, out_at]
  have hx (j : Fin 1024) : iblk m c 0 t (ix2 y0 j) = m ((c : Thread nD τ).loc main_arg0) (ix2 ⟨1024 * t.val + y0.val, by omega⟩ j) := by
    rw [← V_main_arg0 m c]
    blk_ext [iblk, idx0 t]
  have hg (j : Fin 1024) : iblk m c 1 t (ix2 0 j) = m ((c : Thread nD τ).loc main_arg1) (ix1 j) := by
    rw [← gain_at m c]
    blk_ext [iblk, idx1 t]
  have hw (k : Fin 1024) : iblk m c 2 t (ix2 k y1) = m ((c : Thread nD τ).loc main_arg2) (ix2 k y1) := by
    rw [← weights_at m c]
    blk_ext [iblk, idx2 t]
  unfold kernelAt
  rw [← funext hx, ← funext hg, ← funext hw]

/-- The reference's result at row `R` and lane `l` is the kernel's. -/
theorem ref_at (X : FVec Ideal S65536x1024 .f32) (g : FVec Ideal S1024 .f32) (w : FVec Ideal S1024x3584 .f32) (R : Fin 65536) (l : Fin 3584) :
    Cert.InProjReferenceIdeal.Read.val_main_v14 (F := Ideal) X g w (ix2 R l) = kernelAt X g w R l := by
  unfold kernelAt proj normed
  pointwise [
    InProjReferenceIdeal.Read.val_main_v14, InProjReferenceIdeal.Read.val_main_v13, InProjReferenceIdeal.Read.val_main_v12,
    InProjReferenceIdeal.Read.val_main_v11, InProjReferenceIdeal.Read.val_main_v10, InProjReferenceIdeal.Read.val_main_v9,
    InProjReferenceIdeal.Read.val_main_v8, InProjReferenceIdeal.Read.val_main_v7, InProjReferenceIdeal.Read.val_main_v6,
    InProjReferenceIdeal.Read.val_main_v5, InProjReferenceIdeal.Read.val_main_v4, InProjReferenceIdeal.Read.val_main_v3,
    InProjReferenceIdeal.Read.val_main_v2, InProjReferenceIdeal.Read.val_main_v1, InProjReferenceIdeal.Read.val_main_v0,
    InProjReferenceIdeal.Read.val_main_cst, InProjReferenceIdeal.Read.val_main_cst_0,
    InProjReferenceIdeal.Read.val_main_cst_1]

end Cert.InProj

end
-- ==== Proof.Proj.MemKv.lean ====
/- The kernel of the memory's keys and values: what a step stores, and the array it leaves. -/
module

public import proofs.«01_k».proof.Proof.Proj.Norm
public import proofs.«01_k».proof.Proof.Gen.MemKvIdeal.Value
public import proofs.«01_k».proof.Proof.Gen.MemKvReferenceIdeal.Read
public import Idealize.ShloMosaic.Lib.Pipeline.ValueKit
public import Idealize.ShloMosaic.Lib.StableHlo.ReadAt

@[expose] public section

set_option maxRecDepth 65536

noncomputable section

namespace Cert.MemKv

open Idealize.ShloMosaic Idealize.ShloMosaic.TcCoe Idealize.SL.Sem
open Cert.MemKvIdeal Cert.MemKvIdeal.Gen Cert.Norm

theorem pay2_at (x : FVec Ideal S512x1024 .f32) (g : FVec Ideal S1x1024 .f32) (r : Fin 512) (k : Fin 1024) :
    k0_pay2 (F := Ideal) x g (ix2 r k) = normed (fun j => x (ix2 r j)) (fun j => g (ix2 0 j)) k := by
  pointwise [k0_pay2]
  rfl

/-- A tile's product: the scaled rows times a chunk of the weight's columns. -/
theorem pay_at (a : FVec Ideal S512x1024 .bf16) (w : FVec Ideal S1024x512 .bf16) (r : Fin 512) (l : Fin 512) :
    k0_pay1 (F := Ideal) a w (ix2 r l) = ∑ k, a (ix2 r k) * w (ix2 k l) := by
  pointwise [k0_pay1]

theorem out_at (x : Vec Ideal S512x1024 .f32) (g : Vec Ideal S1x1024 .f32) (w : Vec Ideal S1024x2048 .bf16) (r : Fin 512) (l : Fin 2048) :
    out0_3 (F := Ideal) x g w (ix2 r l) = proj (fun j => x (ix2 r j)) (fun j => g (ix2 0 j)) fun k => w (ix2 k l) := by
  have hx : View.ld (Val := Elt Ideal) (e' := .f32) x r0_0 = x := View.ld_unit_zero zero2 _ x
  have hg : View.ld (Val := Elt Ideal) (e' := .f32) g r0_1 = g := View.ld_unit_zero zero2 _ g
  unfold proj
  simp only [← pay2_at]
  unfold out0_3
  rw [hx, hg]
  clear hx hg
  canon_tiles y h
  all_goals
    idx_vars y
    obtain rfl : r = y0 := Fin.ext (by omega)
    refine (pay_at _ _ _ _).trans (Finset.sum_congr rfl fun k _ => congrArg (k0_pay2 (F := Ideal) x g (ix2 r k) * ·) ?_)
    refine View.ld_unit_apply_of _ _ _ _ _ _ fun a => ?_
    fin_cases a
    · exact (Nat.zero_add _).symm
    · first
        | exact h1
        | exact h1.trans (Nat.zero_add _).symm

variable (m : (ℓ : Loc nD τ sig) → Buf (Elt Ideal) ℓ)

theorem gain_at (c : Dev nD) (l : Fin 1024) : V m c main_v0 (ix2 0 l) = m ((c : Thread nD τ).loc main_arg1) (ix1 l) := by
  unfold V
  after_reads_at

theorem weights_at (c : Dev nD) (i : Fin 1024) (j : Fin 2048) : V m c main_v1 (ix2 i j) = m ((c : Thread nD τ).loc main_arg2) (ix2 i j) := by
  unfold V
  after_reads_at

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- Row `R` of the kernel's result, at lane `l`. -/
def kernelAt (X : FVec Ideal S4096x1024 .f32) (g : FVec Ideal S1024 .f32) (w : FVec Ideal S1024x2048 .f32) (R : Fin 4096) (l : Fin 2048) : EReal :=
  proj (fun j => X (ix2 R j)) (fun j => g (ix1 j)) fun k => w (ix2 k l)

theorem final (c : Dev nD) :
    (dats m 0 c).arrAt 3 cfg0.N = fun y : S4096x2048.Idx => kernelAt (m ((c : Thread nD τ).loc main_arg0)) (m ((c : Thread nD τ).loc main_arg1))
      (m ((c : Thread nD τ).loc main_arg2)) (y 0) (y 1) := by
  refine (dats m 0 c).arrAt_eq_of_covers 3 _ (by decide +kernel) fun t hf y => ?_
  blk_simp
  rw [after0_3]
  change S512x2048.Idx at y
  have ht : t.val < 8 := t.isLt
  idx_vars y
  have e0' : ((win0_3.blk t).view.emb (ix2 y0 y1) 0 : ℕ) = 512 * t.val + y0.val := by
    blk_simp [idx3 t]
    omega
  have e0 : (win0_3.blk t).view.emb (ix2 y0 y1) 0 = (⟨512 * t.val + y0.val, by omega⟩ : Fin 4096) := Fin.ext e0'
  have e1 : (win0_3.blk t).view.emb (ix2 y0 y1) 1 = y1 := by
    refine Fin.ext ?_
    blk_simp [idx3 t]
  rw [e0, e1, out_at]
  have hx (j : Fin 1024) : iblk m c 0 t (ix2 y0 j) = m ((c : Thread nD τ).loc main_arg0) (ix2 ⟨512 * t.val + y0.val, by omega⟩ j) := by
    rw [← V_main_arg0 m c]
    blk_ext [iblk, idx0 t]
  have hg (j : Fin 1024) : iblk m c 1 t (ix2 0 j) = m ((c : Thread nD τ).loc main_arg1) (ix1 j) := by
    rw [← gain_at m c]
    blk_ext [iblk, idx1 t]
  have hw (k : Fin 1024) : iblk m c 2 t (ix2 k y1) = m ((c : Thread nD τ).loc main_arg2) (ix2 k y1) := by
    rw [← weights_at m c]
    blk_ext [iblk, idx2 t]
  unfold kernelAt
  rw [← funext hx, ← funext hg, ← funext hw]

/-- The reference's result at row `R` and lane `l` is the kernel's. -/
theorem ref_at (X : FVec Ideal S4096x1024 .f32) (g : FVec Ideal S1024 .f32) (w : FVec Ideal S1024x2048 .f32) (R : Fin 4096) (l : Fin 2048) :
    Cert.MemKvReferenceIdeal.Read.val_main_v14 (F := Ideal) X g w (ix2 R l) = kernelAt X g w R l := by
  unfold kernelAt proj normed
  pointwise [
    MemKvReferenceIdeal.Read.val_main_v14, MemKvReferenceIdeal.Read.val_main_v13, MemKvReferenceIdeal.Read.val_main_v12,
    MemKvReferenceIdeal.Read.val_main_v11, MemKvReferenceIdeal.Read.val_main_v10, MemKvReferenceIdeal.Read.val_main_v9,
    MemKvReferenceIdeal.Read.val_main_v8, MemKvReferenceIdeal.Read.val_main_v7, MemKvReferenceIdeal.Read.val_main_v6,
    MemKvReferenceIdeal.Read.val_main_v5, MemKvReferenceIdeal.Read.val_main_v4, MemKvReferenceIdeal.Read.val_main_v3,
    MemKvReferenceIdeal.Read.val_main_v2, MemKvReferenceIdeal.Read.val_main_v1, MemKvReferenceIdeal.Read.val_main_v0,
    MemKvReferenceIdeal.Read.val_main_cst, MemKvReferenceIdeal.Read.val_main_cst_0,
    MemKvReferenceIdeal.Read.val_main_cst_1]

end Cert.MemKv

end
-- ==== Proof.Ffn.Kernel.lean ====
/- The feed-forward kernel's step: the eleven trips of its loop leave, in the accumulator, the sum over the hidden units. -/
module

public import proofs.«01_k».proof.Proof.Proj.Norm
public import proofs.«01_k».proof.Proof.Gen.FfnIdeal.Value
public import Idealize.ShloMosaic.Lib.Pipeline.ValueKit

@[expose] public section

set_option maxRecDepth 65536

noncomputable section

namespace Cert.Ffn

open Idealize.ShloMosaic Idealize.ShloMosaic.TcCoe Idealize.SL.Sem
open Cert.FfnIdeal Cert.FfnIdeal.Gen Cert.Norm
variable (m : (ℓ : Loc nD τ sig) → Buf (Elt Ideal) ℓ)

/-- A hidden unit's activation: the gate times its logistic, times the up projection. -/
def act (x a u : Fin 1024 → EReal) : EReal :=
  (∑ k, x k * a k) * Ideal.logistic (∑ k, x k * a k) * ∑ k, x k * u k

theorem pay1_at (x : FVec Ideal S1024x1024 .f32) (g : FVec Ideal S1x1024 .f32) (r k : Fin 1024) :
    k0_pay1 (F := Ideal) x g (ix2 r k) = normed (fun j => x (ix2 r j)) (fun j => g (ix2 0 j)) k := by
  pointwise [k0_pay1]
  rfl

theorem pay2_at (r l : Fin 1024) : k0_pay2 (F := Ideal) (ix2 r l) = 0 := by
  pointwise [k0_pay2]

theorem pay3_at (x : FVec Ideal S1024x1024 .bf16) (a u : FVec Ideal S1024x256 .bf16) (s : FVec Ideal S1024x1024 .f32) (d : FVec Ideal S256x1024 .bf16)
    (r l : Fin 1024) :
    k0_pay3 (F := Ideal) x a u s d (ix2 r l)
      = s (ix2 r l) + ∑ h : Fin 256, act (fun k => x (ix2 r k)) (fun k => a (ix2 k h)) (fun k => u (ix2 k h)) * d (ix2 h l) := by
  unfold act
  pointwise [k0_pay3]

theorem pay4_at (x s : FVec Ideal S1024x1024 .f32) (r l : Fin 1024) : k0_pay4 (F := Ideal) x s (ix2 r l) = x (ix2 r l) + s (ix2 r l) := by
  pointwise [k0_pay4]

theorem off1_eq : ∀ k : Fin 11, k0_off1 k 0 = 0 ∧ k0_off1 k 1 = 256 * k.val := by decide +kernel
theorem off2_eq : ∀ k : Fin 11, k0_off2 k 0 = 256 * k.val ∧ k0_off2 k 1 = 0 := by decide +kernel

/-- What a trip of the loop stores: one piece, over the whole accumulator. -/
theorem trip_eq (c : Dev nD) (t : Fin cfg0.N) X2 X3 X4 X7 k f :
    (trip_k0_t1 (F := Ideal) Variants.none c none (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _) X2 X3 X4 X7 k).1 f
      = [⟨Rect.unit ![0, 0] ![1024, 1024] inb_S1024x1024_S1024x1024_0_0,
          k0_pay3
            (View.readAt (Elt Ideal) (View.whole cc0_scratch0) (Rect.unit ![0, 0] ![1024, 1024] inb_S1024x1024_S1024x1024_0_0).toLoadRect X7)
            (View.readAt (Elt Ideal) (ms0_2 t).view (Rect.unit (k0_off1 k) ![1024, 256] (k0_off1_inb k)).toLoadRect X2)
            (View.readAt (Elt Ideal) (ms0_3 t).view (Rect.unit (k0_off1 k) ![1024, 256] (k0_off1_inb k)).toLoadRect X3)
            (View.readAt (Elt Ideal) (View.whole cc0_scratch1) (Rect.unit ![0, 0] ![1024, 1024] inb_S1024x1024_S1024x1024_0_0).toLoadRect f)
            (View.readAt (Elt Ideal) (ms0_4 t).view (Rect.unit (k0_off2 k) ![256, 1024] (k0_off2_inb k)).toLoadRect X4)⟩] := by
  unfold trip_k0_t1
  rfl

/-- The pieces of the trips before `n`, from an accumulator just filled with zeros. -/
def pieces (c : Dev nD) (t : Fin cfg0.N) (xn : FVec Ideal S1024x1024 .bf16) (n : ℕ) : List (View.Piece (Elt Ideal) S1024x1024 .f32) :=
  pb_k0_t1 (F := Ideal) Variants.none c none (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      ((hs0_2 t).unread (iblk m c 2 t)) ((hs0_3 t).unread (iblk m c 3 t)) ((hs0_4 t).unread (iblk m c 4 t))
      ((View.whole cc0_scratch0).writes (Elt Ideal) (View.whole cc0_scratch0).junk [⟨Rect.unit ![0, 0] ![1024, 1024] inb_S1024x1024_S1024x1024_0_0, xn⟩])
      ((View.whole cc0_scratch1).writes (Elt Ideal) (View.whole cc0_scratch1).junk [⟨Rect.unit ![0, 0] ![1024, 1024] inb_S1024x1024_S1024x1024_0_0, k0_pay2 (F := Ideal)⟩])
      n

/-- What the accumulator holds before trip `n`. -/
def held (c : Dev nD) (t : Fin cfg0.N) (xn : FVec Ideal S1024x1024 .bf16) (n : ℕ) : FVec Ideal S1024x1024 .f32 :=
  View.readCov (View.whole cc0_scratch1) (pieces m c t xn n ++ [⟨Rect.unit ![0, 0] ![1024, 1024] inb_S1024x1024_S1024x1024_0_0, k0_pay2 (F := Ideal)⟩])
    (Rect.unit ![0, 0] ![1024, 1024] inb_S1024x1024_S1024x1024_0_0).toLoadRect

theorem held_zero (c : Dev nD) (t : Fin cfg0.N) (xn : FVec Ideal S1024x1024 .bf16) : held m c t xn 0 = k0_pay2 (F := Ideal) := by
  unfold held pieces
  exact View.readCov_cons_toLoadRect _ _ _ _

theorem held_succ (c : Dev nD) (t : Fin cfg0.N) (xn : FVec Ideal S1024x1024 .bf16) (k : Fin k0_t1_loop.trips) :
    held m c t xn (k.val + 1) = k0_pay3 xn (View.ld (iblk m c 2 t) (Rect.unit (k0_off1 k) ![1024, 256] (k0_off1_inb k)))
      (View.ld (iblk m c 3 t) (Rect.unit (k0_off1 k) ![1024, 256] (k0_off1_inb k))) (held m c t xn k.val)
      (View.ld (iblk m c 4 t) (Rect.unit (k0_off2 k) ![256, 1024] (k0_off2_inb k))) := by
  unfold held pieces
  rw [pb_k0_t1_succ (k := k)]
  unfold tripL_k0_t1
  rw [trip_eq]
  refine (View.readCov_cons_toLoadRect _ _ _ _).trans ?_
  rw [← View.writes_append, View.readAt_eq_ld (ms0_2 t).view, View.readAt_eq_ld (ms0_3 t).view, View.readAt_eq_ld (ms0_4 t).view,
    (hs0_2 t).read_unread, (hs0_3 t).read_unread, (hs0_4 t).read_unread]
  refine (congrArg (fun x => k0_pay3 x _ _ _ _) (View.readCov_cons_toLoadRect _ _ _ _)).trans ?_
  rfl

theorem outs_eq (c : Dev nD) (t : Fin cfg0.N) :
    outsAt0 m c t = k0_pay4 (iblk m c 0 t) (held m c t (k0_pay1 (iblk m c 0 t) (iblk m c 1 t)) 11) := by
  unfold outsAt0
  frame_out
  rfl

/-- A trip's slab of 256 columns. -/
theorem ld_cols (X : Vec Ideal S1024x2816 .bf16) (k : Fin 11) (i : Fin 1024) (h : Fin 256) :
    View.ld (Val := Elt Ideal) (e' := .bf16) X (Rect.unit (s := S1024x2816) (k0_off1 k) ![1024, 256] (k0_off1_inb k)) (ix2 i h)
      = X (ix2 i ⟨k.val * 256 + h.val, by omega⟩) := by
  obtain ⟨o, o'⟩ := off1_eq k
  refine View.ld_unit_apply_of _ _ _ _ _ _ fun a => ?_
  fin_cases a
  · show i.val = k0_off1 k 0 + i.val
    omega
  · show k.val * 256 + h.val = k0_off1 k 1 + h.val
    omega

/-- A trip's slab of 256 rows. -/
theorem ld_rows (X : Vec Ideal S2816x1024 .bf16) (k : Fin 11) (h : Fin 256) (l : Fin 1024) :
    View.ld (Val := Elt Ideal) (e' := .bf16) X (Rect.unit (s := S2816x1024) (k0_off2 k) ![256, 1024] (k0_off2_inb k)) (ix2 h l)
      = X (ix2 ⟨k.val * 256 + h.val, by omega⟩ l) := by
  obtain ⟨o, o'⟩ := off2_eq k
  refine View.ld_unit_apply_of _ _ _ _ _ _ fun a => ?_
  fin_cases a
  · show k.val * 256 + h.val = k0_off2 k 0 + h.val
    omega
  · show l.val = k0_off2 k 1 + l.val
    omega

/-- Hidden unit `h`'s share of column `l` of row `r`, from the step's blocks. -/
def hidden (xn : FVec Ideal S1024x1024 .bf16) (a u : FVec Ideal S1024x2816 .bf16) (d : FVec Ideal S2816x1024 .bf16) (r l : Fin 1024) (h : Fin 2816) : EReal :=
  act (fun k => xn (ix2 r k)) (fun k => a (ix2 k h)) (fun k => u (ix2 k h)) * d (ix2 h l)

theorem held_at (c : Dev nD) (t : Fin cfg0.N) (xn : FVec Ideal S1024x1024 .bf16) (r l : Fin 1024) (n : ℕ) (hn : n ≤ 11) :
    held m c t xn n (ix2 r l) = ∑ s : Fin n, ∑ h : Fin 256, hidden xn (iblk m c 2 t) (iblk m c 3 t) (iblk m c 4 t) r l ⟨s.val * 256 + h.val, by omega⟩ := by
  induction n with
  | zero => rw [held_zero, pay2_at, Fin.sum_univ_zero]
  | succ n ih =>
    rw [held_succ m c t xn ⟨n, hn⟩, pay3_at, ih (by omega), Fin.sum_univ_castSucc (n := n)]
    refine congrArg (fun z : EReal => _ + z) (Finset.sum_congr rfl fun h _ => ?_)
    unfold hidden
    exact congrArg₂ (· * ·) (congrArg₂ (act _) (funext fun k => ld_cols _ ⟨n, hn⟩ _ _) (funext fun k => ld_cols _ ⟨n, hn⟩ _ _)) (ld_rows _ ⟨n, hn⟩ _ _)

/-- A step's result at row `r` and column `l`: the residual, plus the hidden units' shares. -/
theorem outs_at (c : Dev nD) (t : Fin cfg0.N) (x : FVec Ideal S1024x1024 .f32) (g : FVec Ideal S1x1024 .f32) (a u : FVec Ideal S1024x2816 .bf16)
    (d : FVec Ideal S2816x1024 .bf16) (hx : iblk m c 0 t = x) (hg : iblk m c 1 t = g) (ha : iblk m c 2 t = a) (hu : iblk m c 3 t = u)
    (hd : iblk m c 4 t = d) (r l : Fin 1024) :
    outsAt0 m c t (ix2 r l) = x (ix2 r l)
      + ∑ h, act (normed (fun j => x (ix2 r j)) fun j => g (ix2 0 j)) (fun k => a (ix2 k h)) (fun k => u (ix2 k h)) * d (ix2 h l) := by
  rw [outs_eq, hx, hg, pay4_at, held_at m c t _ r l 11 (le_refl _), ha, hu, hd, ← Fin.sum_univ_tiles 11 256 rfl (hidden _ a u d r l)]
  unfold hidden
  simp only [pay1_at]

end Cert.Ffn

end
-- ==== Proof.Ffn.Final.lean ====
/- The array the feed-forward kernel leaves, and the reference's, as one function of the arguments' arrays. -/
module

public import proofs.«01_k».proof.Proof.Ffn.Kernel
public import proofs.«01_k».proof.Proof.Gen.FfnReferenceIdeal.Read
public import Idealize.ShloMosaic.Lib.StableHlo.ReadAt

@[expose] public section

set_option maxRecDepth 65536

noncomputable section

namespace Cert.Ffn

open Idealize.ShloMosaic Idealize.ShloMosaic.TcCoe Idealize.SL.Sem
open Cert.FfnIdeal Cert.FfnIdeal.Gen Cert.Norm

variable (m : (ℓ : Loc nD τ sig) → Buf (Elt Ideal) ℓ)

theorem gain_at (c : Dev nD) (l : Fin 1024) : V m c main_v0 (ix2 0 l) = m ((c : Thread nD τ).loc main_arg1) (ix1 l) := by
  unfold V
  after_reads_at

theorem gate_at (c : Dev nD) (i : Fin 1024) (j : Fin 2816) : V m c main_v1 (ix2 i j) = m ((c : Thread nD τ).loc main_arg2) (ix2 i j) := by
  unfold V
  after_reads_at

theorem up_at (c : Dev nD) (i : Fin 1024) (j : Fin 2816) : V m c main_v2 (ix2 i j) = m ((c : Thread nD τ).loc main_arg3) (ix2 i j) := by
  unfold V
  after_reads_at

theorem down_at (c : Dev nD) (i : Fin 2816) (j : Fin 1024) : V m c main_v3 (ix2 i j) = m ((c : Thread nD τ).loc main_arg4) (ix2 i j) := by
  unfold V
  after_reads_at

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- Row `R` of the kernel's result, at lane `l`. -/
def kernelAt (X : FVec Ideal S65536x1024 .f32) (g : FVec Ideal S1024 .f32) (a u : FVec Ideal S1024x2816 .f32) (d : FVec Ideal S2816x1024 .f32)
    (R : Fin 65536) (l : Fin 1024) : EReal :=
  X (ix2 R l) + ∑ h, act (normed (fun j => X (ix2 R j)) fun j => g (ix1 j)) (fun k => a (ix2 k h)) (fun k => u (ix2 k h)) * d (ix2 h l)

theorem final (c : Dev nD) :
    (dats m 0 c).arrAt 5 cfg0.N = fun y : S65536x1024.Idx => kernelAt (m ((c : Thread nD τ).loc main_arg0)) (m ((c : Thread nD τ).loc main_arg1))
      (m ((c : Thread nD τ).loc main_arg2)) (m ((c : Thread nD τ).loc main_arg3)) (m ((c : Thread nD τ).loc main_arg4)) (y 0) (y 1) := by
  refine (dats m 0 c).arrAt_eq_of_covers 5 _ (by decide +kernel) fun t hf y => ?_
  blk_simp
  rw [after0_5]
  change S1024x1024.Idx at y
  have ht : t.val < 64 := t.isLt
  idx_vars y
  have e0' : ((win0_5.blk t).view.emb (ix2 y0 y1) 0 : ℕ) = 1024 * t.val + y0.val := by
    blk_simp [idx5 t]
    omega
  have e0 : (win0_5.blk t).view.emb (ix2 y0 y1) 0 = (⟨1024 * t.val + y0.val, by omega⟩ : Fin 65536) := Fin.ext e0'
  have e1 : (win0_5.blk t).view.emb (ix2 y0 y1) 1 = y1 := by
    refine Fin.ext ?_
    blk_simp [idx5 t]
  rw [e0, e1, outs_at m c t _ _ _ _ _ rfl rfl rfl rfl rfl]
  have hx (j : Fin 1024) : iblk m c 0 t (ix2 y0 j) = m ((c : Thread nD τ).loc main_arg0) (ix2 ⟨1024 * t.val + y0.val, by omega⟩ j) := by
    rw [← V_main_arg0 m c]
    blk_ext [iblk, idx0 t]
  have hg (j : Fin 1024) : iblk m c 1 t (ix2 0 j) = m ((c : Thread nD τ).loc main_arg1) (ix1 j) := by
    rw [← gain_at m c]
    blk_ext [iblk, idx1 t]
  have ha (h : Fin 2816) (k : Fin 1024) : iblk m c 2 t (ix2 k h) = m ((c : Thread nD τ).loc main_arg2) (ix2 k h) := by
    rw [← gate_at m c]
    blk_ext [iblk, idx2 t]
  have hu (h : Fin 2816) (k : Fin 1024) : iblk m c 3 t (ix2 k h) = m ((c : Thread nD τ).loc main_arg3) (ix2 k h) := by
    rw [← up_at m c]
    blk_ext [iblk, idx3 t]
  have hd (h : Fin 2816) : iblk m c 4 t (ix2 h y1) = m ((c : Thread nD τ).loc main_arg4) (ix2 h y1) := by
    rw [← down_at m c]
    blk_ext [iblk, idx4 t]
  unfold kernelAt
  rw [← hx y1, ← funext hx, ← funext hg]
  refine congrArg (fun z : EReal => _ + z) (Finset.sum_congr rfl fun h _ => ?_)
  rw [← hd h, ← funext (ha h), ← funext (hu h)]

theorem one_word : Ideal.ofBits .f32 0x3F800000#32 = 1 := by
  simp [Ideal.ofBits, Ideal.ieee, -EReal.coe_mul]
  norm_num

open Cert.FfnReferenceIdeal.Read in
/-- The reference's scaled rows. -/
theorem scaled_at (X : FVec Ideal S65536x1024 .f32) (g : FVec Ideal S1024 .f32) (R : Fin 65536) (k : Fin 1024) :
    val_main_v12 (F := Ideal) X g (ix2 R k) = normed (fun j => X (ix2 R j)) (fun j => g (ix1 j)) k := by
  unfold normed
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

open Cert.FfnReferenceIdeal.Read in
/-- The reference's result at row `R` and lane `l` is the kernel's. -/
theorem ref_at (X : FVec Ideal S65536x1024 .f32) (g : FVec Ideal S1024 .f32) (a u : FVec Ideal S1024x2816 .f32) (d : FVec Ideal S2816x1024 .f32)
    (R : Fin 65536) (l : Fin 1024) :
    val_main_v18 (F := Ideal) X g a u d (ix2 R l) = kernelAt X g a u d R l := by
  unfold kernelAt act
  simp only [← scaled_at]
  unfold Ideal.logistic
  rw [← one_word]
  pointwise [val_main_v18, val_main_v17, val_main_v16, val_main_v15, val_main_v14, val_main_v13, val_main_call0_v5, val_main_call0_v4,
    val_main_call0_v3, val_main_call0_v2, val_main_call0_v1, val_main_call0_v0, val_main_call0_cst, val_main_call0_cst_0]

end Cert.Ffn

end
-- ==== Proof.Post.Soft.lean ====
/- A row's memory attention: its scaled row, its queries and its heads, as functions of extended reals; what is finite in them. -/
module

public import proofs.«01_k».proof.Proof.Proj.Norm
public import proofs.«01_k».proof.Proof.Attn.Softmax

@[expose] public section

noncomputable section

namespace Cert.Mem

open Idealize.ShloMosaic Cert.Norm

/-- Values weighted by the exponentials of scores, divided at the end by the sum of the weights. -/
def weigh (s v : Fin 256 → EReal) : EReal :=
  Ideal.div (∑ j, Ideal.exp (s j - Finset.univ.sup s) * v j) (∑ j, Ideal.exp (s j - Finset.univ.sup s))

/-- An extended real that is a real. -/
def IsReal (x : EReal) : Prop := ∃ r : ℝ, x = r

theorem real_of_ne {x : EReal} (h : x ≠ ⊤ ∧ x ≠ ⊥) : IsReal x := ⟨x.toReal, (EReal.coe_toReal h.1 h.2).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type} (K : Finset ι) (f : ι → EReal) (h : ∀ i, IsReal (f i)) : IsReal (∑ i ∈ K, f i) := by
  choose g hg using h
  exact ⟨∑ i ∈ K, g i, by rw [Softmax.coe_sum]; exact Finset.sum_congr rfl fun i _ => hg i⟩

/-- Divided at the end or at each weight, finite scores weigh values alike. -/
theorem weigh_eq (s : Fin 256 → EReal) (v : Fin 256 → EReal) (hs : ∀ j, IsReal (s j)) :
    weigh s v = ∑ j, v j * Ideal.div (Ideal.exp (s j - Finset.univ.sup s)) (∑ j, Ideal.exp (s j - Finset.univ.sup s)) := by
  choose r hr using hs
  obtain rfl : s = fun j => (r j : EReal) := funext hr
  obtain ⟨p, -, hp⟩ := Softmax.sup_coe Finset.univ Finset.univ_nonempty r
  have he (j : Fin 256) : Ideal.exp ((r j : EReal) - Finset.univ.sup fun j => (r j : EReal)) = ((Real.exp (r j - r p) : ℝ) : EReal) := by
    rw [hp, ← EReal.coe_sub]
    rfl
  have hL : 0 < ∑ j, Real.exp (r j - r p) := Finset.sum_pos (fun _ _ => Real.exp_pos _) Finset.univ_nonempty
  have hL' : ((∑ j, Real.exp (r j - r p) : ℝ) : EReal) ≠ 0 := by exact_mod_cast hL.ne'
  unfold weigh
  simp only [he]
  rw [← Softmax.coe_sum]
  unfold Ideal.div
  simp only [if_neg hL', ← EReal.coe_inv]
  rw [Softmax.mul_sum_of_real _ _ (inv_nonneg.mpr hL.le)]
  refine Finset.sum_congr rfl fun j _ => ?_
  rw [mul_comm (v j), mul_right_comm]

theorem size_word : Ideal.ofBits .f32 0x44800000#32 = ((1024 : ℝ) : EReal) := by
  simp [Ideal.ofBits, Ideal.ieee, -EReal.coe_mul]
  norm_num

theorem scale_word : Ideal.ofBits .f32 0x3D800000#32 = ((1 / 16 : ℝ) : EReal) := by
  simp [Ideal.ofBits, Ideal.ieee, -EReal.coe_mul]
  norm_num

theorem eps_word : ∃ e : ℝ, 0 < e ∧ Ideal.ofBits .f32 0x358637BD#32 = (e : EReal) := by
  refine ⟨_, ?_, by simp [Ideal.ofBits, Ideal.ieee, -EReal.coe_mul]; rfl⟩
  norm_num

theorem neg_inf_word : Ideal.ofBits .f32 0xFF800000#32 = (⊥ : EReal) := by
  simp [Ideal.ofBits, Ideal.ieee]

theorem sq_nonneg (x : EReal) : 0 ≤ x * x := by
  induction x with
  | bot => simp
  | top => simp
  | coe r => rw [← EReal.coe_mul]; exact_mod_cast mul_self_nonneg r

/-- A scaled row is finite whatever the row holds: an infinite lane brings the root's reciprocal to zero. -/
theorem normed_real (x g : Fin 1024 → EReal) (hg : ∀ k, IsReal (g k)) (k : Fin 1024) : IsReal (normed x g k) := by
  obtain ⟨e, he, heq⟩ := eps_word
  have h1024 : ((1024 : ℝ) : EReal) ≠ 0 := by norm_num
  unfold normed
  rw [size_word, heq]
  refine IsReal.mul ?_ (hg k)
  by_cases h : ∀ j, IsReal (x j)
  · choose r hr using h
    have hs : ∑ j, x j * x j = ((∑ j, r j * r j : ℝ) : EReal) := by
      rw [Softmax.coe_sum]
      exact Finset.sum_congr rfl fun j _ => by rw [hr j, EReal.coe_mul]
    have hpos : 0 < (∑ j, r j * r j) * (1024 : ℝ)⁻¹ + e :=
      add_pos_of_nonneg_of_pos (mul_nonneg (Finset.sum_nonneg fun j _ => mul_self_nonneg _) (by norm_num)) he
    rw [hs]
    unfold Ideal.div
    rw [if_neg h1024, ← EReal.coe_inv, ← EReal.coe_mul, ← EReal.coe_add]
    refine IsReal.mul ⟨r k, hr k⟩ ⟨(Real.sqrt ((∑ j, r j * r j) * (1024 : ℝ)⁻¹ + e))⁻¹, ?_⟩
    show (if _ < 0 then ⊥ else if _ = 0 then ⊤ else _ : EReal) = _
    rw [if_neg (not_lt.mpr hpos.le), if_neg hpos.ne']
  · obtain ⟨i, hi⟩ := not_forall.mp h
    have hsq : x i * x i = ⊤ := by
      by_cases ht : x i = ⊤
      · rw [ht]; rfl
      · by_cases hb : x i = ⊥
        · rw [hb]; rfl
        · exact absurd (real_of_ne ⟨ht, hb⟩) hi
    have hs : ∑ j, x j * x j = ⊤ := by
      refine top_le_iff.mp (hsq ▸ ?_)
      exact Finset.single_le_sum (f := fun j => x j * x j) (fun j _ => sq_nonneg (x j)) (Finset.mem_univ i)
    rw [hs]
    unfold Ideal.div
    rw [if_neg h1024, ← EReal.coe_inv, EReal.top_mul_coe_of_pos (by norm_num), EReal.top_add_coe]
    show IsReal (x k * 0)
    rw [mul_zero]
    exact ⟨0, rfl⟩

/-- A score of finite queries and keys: the scale times the queries, or times the score. -/
theorem score_scaled (q k : Fin 256 → EReal) (hq : ∀ d, IsReal (q d)) (hk : ∀ d, IsReal (k d)) :
    ∑ d, q d * Ideal.ofBits .f32 0x3D800000#32 * k d = (∑ d, q d * k d) * Ideal.ofBits .f32 0x3D800000#32 := by
  rw [scale_word, Softmax.mul_sum_of_real _ _ (by norm_num)]
  exact Finset.sum_congr rfl fun d _ => mul_right_comm _ _ _

/-- A row after the output projection of the two mixers' results. -/
def mixed (x : Fin 1024 → EReal) (yh ya : Fin 512 → EReal) (w : Fin 1024 → Fin 1024 → EReal) (l : Fin 1024) : EReal :=
  x l + (∑ k, yh k * w ⟨k.val, by omega⟩ l) + ∑ k, ya k * w ⟨512 + k.val, by omega⟩ l

/-- Lane `e` of a head's result, from queries, keys and values; the head is the lane's. -/
def head (q : Fin 1024 → EReal) (K V : Fin 256 → Fin 1024 → EReal) (e : Fin 1024) : EReal :=
  weigh (fun j => ∑ d : Fin 256, q ⟨e.val / 256 * 256 + d.val, by omega⟩ * K j ⟨e.val / 256 * 256 + d.val, by omega⟩) fun j => V j e

/-- A row's result: the residual, plus the heads' results times a matrix. -/
def result (h1 q : Fin 1024 → EReal) (K V : Fin 256 → Fin 1024 → EReal) (w : Fin 1024 → EReal) (l : Fin 1024) : EReal :=
  h1 l + ∑ e, head q K V e * w e

end Cert.Mem

end
-- ==== Proof.Post.Kernel.lean ====
/- The step of the kernel of the output projection and the memory's attention: what it stores. -/
module

public import proofs.«01_k».proof.Proof.Post.Soft
public import proofs.«01_k».proof.Proof.Gen.PostIdeal.Value
public import Idealize.ShloMosaic.Lib.Pipeline.ValueKit

@[expose] public section

set_option maxRecDepth 65536

noncomputable section

namespace Cert.Post

open Idealize.ShloMosaic Idealize.ShloMosaic.TcCoe Idealize.SL.Sem
open Cert.PostIdeal Cert.PostIdeal.Gen Cert.Norm Cert.Mem

theorem pay2_at (x : FVec Ideal S1024x1024 .f32) (yh : FVec Ideal S1024x512 .bf16) (w0 : FVec Ideal S512x1024 .bf16) (ya : FVec Ideal S1024x512 .bf16)
    (w1 : FVec Ideal S512x1024 .bf16) (r l : Fin 1024) :
    k0_pay2 (F := Ideal) x yh w0 ya w1 (ix2 r l) = x (ix2 r l) + (∑ k, yh (ix2 r k) * w0 (ix2 k l)) + ∑ k, ya (ix2 r k) * w1 (ix2 k l) := by
  pointwise [k0_pay2]

theorem pay3_at (x : FVec Ideal S1024x1024 .f32) (yh : FVec Ideal S1024x512 .bf16) (w0 : FVec Ideal S512x1024 .bf16) (ya : FVec Ideal S1024x512 .bf16)
    (w1 : FVec Ideal S512x1024 .bf16) (g : FVec Ideal S1x1024 .f32) (wq : FVec Ideal S1024x1024 .bf16) (r l : Fin 1024) :
    k0_pay3 (F := Ideal) x yh w0 ya w1 g wq (ix2 r l)
      = proj (fun j => k0_pay2 (F := Ideal) x yh w0 ya w1 (ix2 r j)) (fun j => g (ix2 0 j)) (fun k => wq (ix2 k l)) * Ideal.ofBits .f32 0x3D800000#32 := by
  unfold proj normed
  pointwise [k0_pay3]

theorem pay4_at (q : FVec Ideal S1024x1024 .bf16) (k v : FVec Ideal S256x256 .bf16) (r : Fin 1024) (d : Fin 256) :
    k0_pay4 (F := Ideal) q k v (ix2 r d)
      = weigh (fun j => ∑ i : Fin 256, q (ix2 r ⟨i.val, by omega⟩) * k (ix2 j i)) (fun j => v (ix2 j d)) := by
  unfold weigh
  pointwise [k0_pay4]
  rw [neg_inf_word]
  rfl

theorem pay5_at (q : FVec Ideal S1024x1024 .bf16) (k v : FVec Ideal S256x256 .bf16) (r : Fin 1024) (d : Fin 256) :
    k0_pay5 (F := Ideal) q k v (ix2 r d)
      = weigh (fun j => ∑ i : Fin 256, q (ix2 r ⟨256 + i.val, by omega⟩) * k (ix2 j i)) (fun j => v (ix2 j d)) := by
  unfold weigh
  pointwise [k0_pay5]
  rw [neg_inf_word]
  rfl

/-- A sum over all lanes, cut at the heads. -/
theorem sum_slabs (f : Fin 1024 → EReal) : ∑ e, f e
    = (∑ d : Fin 256, f ⟨d.val, by omega⟩) + (∑ d : Fin 256, f ⟨256 + d.val, by omega⟩) + (∑ d : Fin 256, f ⟨512 + d.val, by omega⟩)
      + ∑ d : Fin 256, f ⟨768 + d.val, by omega⟩ := by
  rw [Fin.sum_univ_tiles 4 256 rfl, Fin.sum_univ_four]
  refine congrArg₂ (· + ·) (congrArg₂ (· + ·) (congrArg₂ (· + ·) ?_ rfl) rfl) rfl
  exact Finset.sum_congr rfl fun d _ => congrArg f (Fin.ext (show 0 * 256 + d.val = d.val by omega))

/-- The step's last payload: the residual, plus four heads' results times the matrix's four slabs of rows. -/
theorem pay1_at (h1 : FVec Ideal S1024x1024 .f32) (q : FVec Ideal S1024x1024 .bf16) (o0 o1 : FVec Ideal S1024x256 .bf16)
    (k2 v2 k3 v3 : FVec Ideal S256x256 .bf16) (w : FVec Ideal S1024x1024 .bf16) (r l : Fin 1024) :
    k0_pay1 (F := Ideal) h1 q o0 o1 v2 (k0_pay6 q k2) (k0_pay7 q k2) k3 v3 w (ix2 r l)
      = h1 (ix2 r l) + ((∑ d : Fin 256, o0 (ix2 r d) * w (ix2 ⟨d.val, by omega⟩ l)) + (∑ d : Fin 256, o1 (ix2 r d) * w (ix2 ⟨256 + d.val, by omega⟩ l))
        + (∑ d : Fin 256, weigh (fun j => ∑ i : Fin 256, q (ix2 r ⟨512 + i.val, by omega⟩) * k2 (ix2 j i)) (fun j => v2 (ix2 j d)) * w (ix2 ⟨512 + d.val, by omega⟩ l))
        + ∑ d : Fin 256, weigh (fun j => ∑ i : Fin 256, q (ix2 r ⟨768 + i.val, by omega⟩) * k3 (ix2 j i)) (fun j => v3 (ix2 j d)) * w (ix2 ⟨768 + d.val, by omega⟩ l)) := by
  unfold weigh
  pointwise [k0_pay1, k0_pay6, k0_pay7]
  simp only [neg_inf_word]
  refine congrArg (fun z : EReal => _ + z) ((sum_slabs _).trans ?_)
  refine congrArg₂ (· + ·) (congrArg₂ (· + ·) (congrArg₂ (· + ·) ?_ ?_) ?_) ?_ <;> refine Finset.sum_congr rfl fun d _ => congrArg (· * w _) ?_
  · exact dif_pos d.isLt
  · refine (dif_neg (show ¬256 + d.val < 256 by omega)).trans ((dif_pos (show 256 + d.val - 256 < 256 by omega)).trans ?_)
    exact congrArg (fun e => o1 (ix2 r e)) (Fin.ext (Nat.add_sub_cancel_left 256 d.val))
  · refine (dif_neg (show ¬512 + d.val < 256 by omega)).trans ((dif_neg (show ¬512 + d.val - 256 < 256 by omega)).trans
      ((dif_pos (show 512 + d.val - 256 - 256 < 256 by omega)).trans ?_))
    rw [show (⟨512 + d.val - 256 - 256, by omega⟩ : Fin 256) = d from Fin.ext (show 512 + d.val - 256 - 256 = d.val by omega)]
    rfl
  · refine (dif_neg (show ¬768 + d.val < 256 by omega)).trans ((dif_neg (show ¬768 + d.val - 256 < 256 by omega)).trans
      ((dif_neg (show ¬768 + d.val - 256 - 256 < 256 by omega)).trans ?_))
    rw [show (⟨768 + d.val - 256 - 256 - 256, by omega⟩ : Fin 256) = d from Fin.ext (show 768 + d.val - 256 - 256 - 256 = d.val by omega)]
    rfl

end Cert.Post

end
-- ==== Proof.Post.Step.lean ====
/- What a grid point of the kernel of the output projection and the memory's attention stores, from its blocks. -/
module

public import proofs.«01_k».proof.Proof.Post.Kernel

@[expose] public section

set_option maxRecDepth 65536

noncomputable section

namespace Cert.Post

open Idealize.ShloMosaic Idealize.ShloMosaic.TcCoe Idealize.SL.Sem
open Cert.PostIdeal Cert.PostIdeal.Gen Cert.Norm Cert.Mem

/-- A slab of 256 of the memory's columns. -/
theorem ld_cols (x : Vec Ideal S256x2048 .bf16) (o : ℕ) (inb : _) (j i : Fin 256) (f : Fin 2048) (hf : f.val = o + i.val) :
    View.ld (Val := Elt Ideal) (e' := .bf16) x (Rect.unit (s := S256x2048) ![0, o] S256x256.size inb) (ix2 j i) = x (ix2 j f) := by
  refine View.ld_unit_apply_of _ _ _ _ _ _ fun a => ?_
  fin_cases a
  · exact (Nat.zero_add _).symm
  · exact hf

/-- A slab of 512 of the output projection's rows. -/
theorem ld_rows (x : Vec Ideal S1024x1024 .bf16) (o : ℕ) (inb : _) (k : Fin 512) (j f : Fin 1024) (hf : f.val = o + k.val) :
    View.ld (Val := Elt Ideal) (e' := .bf16) x (Rect.unit (s := S1024x1024) ![o, 0] S512x1024.size inb) (ix2 k j) = x (ix2 f j) := by
  refine View.ld_unit_apply_of _ _ _ _ _ _ fun a => ?_
  fin_cases a
  · exact hf
  · exact (Nat.zero_add _).symm

/-- Lane `d` of head `n`, from the slabs of queries, keys and values the head reads. -/
theorem head_slab (n : ℕ) (q : Fin 1024 → EReal) (K V : Fin 256 → Fin 1024 → EReal) (Q : Fin 256 → EReal) (Ks : Fin 256 → Fin 256 → EReal)
    (Vs : Fin 256 → EReal) (d : Fin 256) (e : Fin 1024) (he : e.val = 256 * n + d.val)
    (hQ : ∀ (i : Fin 256) (f : Fin 1024), f.val = 256 * n + i.val → Q i = q f)
    (hK : ∀ (j i : Fin 256) (f : Fin 1024), f.val = 256 * n + i.val → Ks j i = K j f) (hV : ∀ j, Vs j = V j e) :
    weigh (fun j => ∑ i, Q i * Ks j i) Vs = head q K V e := by
  unfold head
  have hf (i : Fin 256) : e.val / 256 * 256 + i.val = 256 * n + i.val := by omega
  exact congrArg₂ weigh (funext fun j => Finset.sum_congr rfl fun i _ => congrArg₂ (· * ·) (hQ i _ (hf i)) (hK j i _ (hf i))) (funext hV)

theorem out_at (x0 : Vec Ideal S1024x1024 .f32) (x1 x2 : Vec Ideal S1024x512 .bf16) (x3 : Vec Ideal S1024x1024 .bf16) (x4 : Vec Ideal S1x1024 .f32)
    (x5 : Vec Ideal S1024x1024 .bf16) (x6 : Vec Ideal S256x2048 .bf16) (x7 : Vec Ideal S1024x1024 .bf16) (r l : Fin 1024)
    (H : Fin 1024 → EReal) (hH : H = mixed (fun j => x0 (ix2 r j)) (fun k => x1 (ix2 r k)) (fun k => x2 (ix2 r k)) fun k j => x3 (ix2 k j)) :
    out0_8 (F := Ideal) x0 x1 x2 x3 x4 x5 x6 x7 (ix2 r l)
      = result H (fun e => proj H (fun j => x4 (ix2 0 j)) (fun k => x5 (ix2 k e)) * Ideal.ofBits .f32 0x3D800000#32)
        (fun j d => x6 (ix2 j ⟨d.val, by omega⟩)) (fun j d => x6 (ix2 j ⟨1024 + d.val, by omega⟩)) (fun e => x7 (ix2 e l)) l := by
  have h0 : View.ld (Val := Elt Ideal) (e' := .f32) x0 r0_0 = x0 := View.ld_unit_zero zero2 _ x0
  have h1 : View.ld (Val := Elt Ideal) (e' := .bf16) x1 r0_1 = x1 := View.ld_unit_zero zero2 _ x1
  have h2 : View.ld (Val := Elt Ideal) (e' := .bf16) x2 r0_1 = x2 := View.ld_unit_zero zero2 _ x2
  have h4 : View.ld (Val := Elt Ideal) (e' := .f32) x4 r0_4 = x4 := View.ld_unit_zero zero2 _ x4
  have h5 : View.ld (Val := Elt Ideal) (e' := .bf16) x5 r0_0 = x5 := View.ld_unit_zero zero2 _ x5
  have h7 : View.ld (Val := Elt Ideal) (e' := .bf16) x7 r0_0 = x7 := View.ld_unit_zero zero2 _ x7
  have hm (j : Fin 1024) : k0_pay2 (F := Ideal) x0 x1 (View.ld x3 r0_2) x2 (View.ld x3 r0_3) (ix2 r j) = H j := by
    rw [pay2_at, hH]
    unfold mixed
    refine congrArg₂ (· + ·) (congrArg (fun z : EReal => _ + z) ?_) ?_ <;> refine Finset.sum_congr rfl fun k _ => congrArg (_ * ·) ?_
    · exact ld_rows x3 0 _ k j _ (Nat.zero_add _).symm
    · exact ld_rows x3 512 _ k j _ rfl
  have hq (e : Fin 1024) : k0_pay3 (F := Ideal) x0 x1 (View.ld x3 r0_2) x2 (View.ld x3 r0_3) x4 x5 (ix2 r e)
      = proj H (fun j => x4 (ix2 0 j)) (fun k => x5 (ix2 k e)) * Ideal.ofBits .f32 0x3D800000#32 := by
    rw [pay3_at, funext hm]
  unfold_out out0_8
  rw [h0, h1, h2, h4, h5, h7]
  revert hm hq
  generalize k0_pay3 (F := Ideal) x0 x1 (View.ld x3 r0_2) x2 (View.ld x3 r0_3) x4 x5 = Q
  generalize k0_pay2 (F := Ideal) x0 x1 (View.ld x3 r0_2) x2 (View.ld x3 r0_3) = M
  intro hm hq
  clear h0 h1 h2 h4 h5 h7
  canon_tiles y h
  idx_vars y
  obtain rfl : r = y0 := Fin.ext (by omega)
  obtain rfl : l = y1 := Fin.ext (by omega)
  refine (pay1_at _ _ _ _ _ _ _ _ _ _ _).trans ?_
  unfold result
  rw [hm, sum_slabs]
  refine congrArg (fun z : EReal => _ + z) (congrArg₂ (· + ·) (congrArg₂ (· + ·) (congrArg₂ (· + ·) ?_ ?_) ?_) ?_)
    <;> refine Finset.sum_congr rfl fun d _ => congrArg (· * _) ?_
  · refine (pay4_at _ _ _ _ _).trans (head_slab 0 _ _ _ _ _ _ d _ (by show d.val = 256 * 0 + d.val; omega) (fun i f hf => ?_) (fun j i f hf => ?_) fun j => ?_)
    · exact (congrArg (fun e => Q (ix2 r e)) (Fin.ext (by show i.val = f.val; omega))).trans (hq f)
    · exact ld_cols x6 0 _ j i _ (by show f.val = 0 + i.val; omega)
    · exact ld_cols x6 1024 _ j d _ rfl
  · refine (pay5_at _ _ _ _ _).trans (head_slab 1 _ _ _ _ _ _ d _ (by show 256 + d.val = 256 * 1 + d.val; omega) (fun i f hf => ?_) (fun j i f hf => ?_) fun j => ?_)
    · exact (congrArg (fun e => Q (ix2 r e)) (Fin.ext (by show 256 + i.val = f.val; omega))).trans (hq f)
    · exact ld_cols x6 256 _ j i _ (by show f.val = 256 + i.val; omega)
    · exact ld_cols x6 1280 _ j d _ (by show 1024 + (256 + d.val) = 1280 + d.val; omega)
  · refine head_slab 2 _ _ _ _ _ _ d _ (by show 512 + d.val = 256 * 2 + d.val; omega) (fun i f hf => ?_) (fun j i f hf => ?_) fun j => ?_
    · exact (congrArg (fun e => Q (ix2 r e)) (Fin.ext (by show 512 + i.val = f.val; omega))).trans (hq f)
    · exact ld_cols x6 512 _ j i _ (by show f.val = 512 + i.val; omega)
    · exact ld_cols x6 1536 _ j d _ (by show 1024 + (512 + d.val) = 1536 + d.val; omega)
  · refine head_slab 3 _ _ _ _ _ _ d _ (by show 768 + d.val = 256 * 3 + d.val; omega) (fun i f hf => ?_) (fun j i f hf => ?_) fun j => ?_
    · exact (congrArg (fun e => Q (ix2 r e)) (Fin.ext (by show 768 + i.val = f.val; omega))).trans (hq f)
    · exact ld_cols x6 768 _ j i _ (by show f.val = 768 + i.val; omega)
    · exact ld_cols x6 1792 _ j d _ (by show 1024 + (768 + d.val) = 1792 + d.val; omega)

end Cert.Post

end
-- ==== Proof.Post.Reference.lean ====
/- The reference of the output projection and the memory's attention, at one row and one lane. -/
module

public import proofs.«01_k».proof.Proof.Post.Soft
public import proofs.«01_k».proof.Proof.Gen.PostReferenceIdeal.Read
public import Idealize.ShloMosaic.Lib.Pipeline.ValueKit
public import Idealize.ShloMosaic.Lib.KernelVsHost

@[expose] public section

set_option maxRecDepth 65536

noncomputable section

namespace Cert.Post

open Idealize.ShloMosaic
open Cert.PostReferenceIdeal Cert.PostReferenceIdeal.Gen Cert.PostReferenceIdeal.Read Cert.Norm Cert.Mem

variable (x0 : FVec Ideal S65536x1024 .f32) (x1 x2 : FVec Ideal S65536x512 .bf16) (x3 : FVec Ideal S1024x1024 .f32) (x4 : FVec Ideal S1024 .f32)
  (x5 : FVec Ideal S1024x1024 .f32) (x6 : FVec Ideal S4096x2048 .bf16) (x7 : FVec Ideal S1024x1024 .f32)

/-- Row `R` after the output projection. -/
def row (R : Fin 65536) : Fin 1024 → EReal :=
  mixed (fun j => x0 (ix2 R j)) (fun k => x1 (ix2 R k)) (fun k => x2 (ix2 R k)) fun k j => x3 (ix2 k j)

/-- Row `R`'s queries. -/
def query (R : Fin 65536) (e : Fin 1024) : EReal :=
  proj (row x0 x1 x2 x3 R) (fun j => x4 (ix1 j)) fun k => x5 (ix2 k e)

theorem row_at (R : Fin 65536) (l : Fin 1024) : val_main_v3 (F := Ideal) x0 x1 x2 x3 (ix2 R l) = row x0 x1 x2 x3 R l := by
  unfold row mixed
  rw [add_assoc]
  pointwise [val_main_v3, val_main_v2, val_main_v1, val_main_v0]

theorem scaled_at (R : Fin 65536) (k : Fin 1024) :
    val_main_v16 (F := Ideal) x0 x1 x2 x3 x4 (ix2 R k) = normed (fun j => val_main_v3 (F := Ideal) x0 x1 x2 x3 (ix2 R j)) (fun j => x4 (ix1 j)) k := by
  unfold normed
  pointwise [val_main_v16, val_main_v15, val_main_v14, val_main_v13, val_main_v12, val_main_v11, val_main_v10, val_main_v9, val_main_v8, val_main_v7,
    val_main_v6, val_main_v5, val_main_v4, val_main_cst, val_main_cst_0, val_main_cst_1]

theorem query_at (R : Fin 65536) (e : Fin 1024) : val_main_v17 (F := Ideal) x0 x1 x2 x3 x4 x5 (ix2 R e) = query x0 x1 x2 x3 x4 x5 R e := by
  unfold query proj
  simp only [← funext (row_at x0 x1 x2 x3 R), ← scaled_at]
  pointwise [val_main_v17]

/-- A score, scaled. -/
def score (b : Fin 16) (h : Fin 4) (s : Fin 4096) (j : Fin 256) : EReal :=
  (∑ d : Fin 256, query x0 x1 x2 x3 x4 x5 ⟨b.val * 4096 + s.val, by omega⟩ ⟨h.val * 256 + d.val, by omega⟩
    * x6 (ix2 ⟨b.val * 256 + j.val, by omega⟩ ⟨h.val * 256 + d.val, by omega⟩)) * Ideal.ofBits .f32 0x3D800000#32

theorem heads_query (b : Fin 16) (s : Fin 4096) (h : Fin 4) (d : Fin 256) :
    val_main_v18 (F := Ideal) x0 x1 x2 x3 x4 x5 (ix4 b s h d)
      = query x0 x1 x2 x3 x4 x5 ⟨b.val * 4096 + s.val, by omega⟩ ⟨h.val * 256 + d.val, by omega⟩ := by
  rw [val_main_v18_apply, ← query_at]
  refine congrArg (val_main_v17 (F := Ideal) x0 x1 x2 x3 x4 x5) (funext fun a => Fin.ext ?_)
  match a with
  | ⟨0, _⟩ => show (((b.val * 4096 + s.val) * 4 + h.val) * 256 + d.val) / 1024 = b.val * 4096 + s.val; omega
  | ⟨1, _⟩ => show (((b.val * 4096 + s.val) * 4 + h.val) * 256 + d.val) % 1024 = h.val * 256 + d.val; omega

theorem memory_at (b : Fin 16) (j : Fin 256) (l : Fin 2048) : val_main_v20 (F := Ideal) x6 (ix3 b j l) = x6 (ix2 ⟨b.val * 256 + j.val, by omega⟩ l) := by
  rw [val_main_v20_apply]
  change x6 _ = _
  refine congrArg x6 (funext fun a => Fin.ext ?_)
  match a with
  | ⟨0, _⟩ => show ((b.val * 256 + j.val) * 2048 + l.val) / 2048 = b.val * 256 + j.val; omega
  | ⟨1, _⟩ => show ((b.val * 256 + j.val) * 2048 + l.val) % 2048 = l.val; omega

theorem key_at (b : Fin 16) (j : Fin 256) (h : Fin 4) (d : Fin 256) :
    val_main_v23 (F := Ideal) x6 (ix4 b j h d) = x6 (ix2 ⟨b.val * 256 + j.val, by omega⟩ ⟨h.val * 256 + d.val, by omega⟩) := by
  rw [val_main_v23_apply, val_main_v21_apply, ← memory_at x6]
  refine congrArg (val_main_v20 (F := Ideal) x6) (funext fun a => Fin.ext ?_)
  match a with
  | ⟨0, _⟩ => show (((b.val * 256 + j.val) * 4 + h.val) * 256 + d.val) / 262144 = b.val; omega
  | ⟨1, _⟩ => show (((b.val * 256 + j.val) * 4 + h.val) * 256 + d.val) / 1024 % 256 = j.val; omega
  | ⟨2, _⟩ => show (((b.val * 256 + j.val) * 4 + h.val) * 256 + d.val) % 1024 = h.val * 256 + d.val; omega

theorem value_at (b : Fin 16) (j : Fin 256) (h : Fin 4) (d : Fin 256) :
    val_main_v24 (F := Ideal) x6 (ix4 b j h d) = x6 (ix2 ⟨b.val * 256 + j.val, by omega⟩ ⟨1024 + (h.val * 256 + d.val), by omega⟩) := by
  rw [val_main_v24_apply, val_main_v22_apply, ← memory_at x6]
  refine congrArg (val_main_v20 (F := Ideal) x6) (funext fun a => Fin.ext ?_)
  match a with
  | ⟨0, _⟩ => show (((b.val * 256 + j.val) * 4 + h.val) * 256 + d.val) / 262144 = b.val; omega
  | ⟨1, _⟩ => show (((b.val * 256 + j.val) * 4 + h.val) * 256 + d.val) / 1024 % 256 = j.val; omega
  | ⟨2, _⟩ => show 1024 + (((b.val * 256 + j.val) * 4 + h.val) * 256 + d.val) % 1024 = 1024 + (h.val * 256 + d.val); omega

theorem score_at (b : Fin 16) (h : Fin 4) (s : Fin 4096) (j : Fin 256) :
    val_main_v27 (F := Ideal) x0 x1 x2 x3 x4 x5 x6 (ix4 b h s j) = score x0 x1 x2 x3 x4 x5 x6 b h s j := by
  rw [val_main_v27_apply, val_main_v25_apply, val_main_v26_apply]
  unfold score
  refine congrArg (· * Ideal.ofBits .f32 0x3D800000#32) (Finset.sum_congr rfl fun d _ => ?_)
  rw [← heads_query, ← key_at x6]
  refine congrArg₂ (· * ·) (congrArg (val_main_v18 (F := Ideal) x0 x1 x2 x3 x4 x5) (funext fun a => ?_)) (congrArg (val_main_v23 (F := Ideal) x6) (funext fun a => ?_))
    <;> match a with
    | ⟨0, _⟩ => rfl
    | ⟨1, _⟩ => rfl
    | ⟨2, _⟩ => rfl
    | ⟨3, _⟩ => rfl

/-- The greatest score of a query's memory. -/
theorem max_at (b : Fin 16) (h : Fin 4) (s : Fin 4096) :
    val_main_v30 (F := Ideal) x0 x1 x2 x3 x4 x5 x6 (ix3 b h s) = Finset.univ.sup (score x0 x1 x2 x3 x4 x5 x6 b h s) := by
  have h28 : val_main_v28 (F := Ideal) x0 x1 x2 x3 x4 x5 x6 (ix3 b h s) = Finset.univ.sup (score x0 x1 x2 x3 x4 x5 x6 b h s) := by
    unfold val_main_v28
    rw [Host.reduce_eq_fold_single _ _ _ _ (by decide : S16x4x4096x256.Reduces [3] S16x4x4096)]
    have hb : (val_main_cst_3 (F := Ideal) (Shape.Idx.first h_S_) : EReal) = ⊥ := neg_inf_word
    rw [hb]
    refine Finset.fold_congr fun j _ => ?_
    refine Eq.trans (congrArg (val_main_v27 (F := Ideal) x0 x1 x2 x3 x4 x5 x6) (funext fun a => ?_)) (score_at x0 x1 x2 x3 x4 x5 x6 b h s j)
    match a with
    | ⟨0, _⟩ => rfl
    | ⟨1, _⟩ => rfl
    | ⟨2, _⟩ => rfl
    | ⟨3, _⟩ => rfl
  rw [val_main_v30_apply, h28]
  have hm : (val_main_v29 (F := Ideal) (ix3 b h s) : EReal) = ⊥ := neg_inf_word
  rw [hm]
  exact max_bot_left _

/-- A weight before the division. -/
theorem exp_at (b : Fin 16) (h : Fin 4) (s : Fin 4096) (j : Fin 256) :
    val_main_v34 (F := Ideal) x0 x1 x2 x3 x4 x5 x6 (ix4 b h s j)
      = Ideal.exp (score x0 x1 x2 x3 x4 x5 x6 b h s j - Finset.univ.sup (score x0 x1 x2 x3 x4 x5 x6 b h s)) := by
  rw [val_main_v34_apply, val_main_v33_apply, score_at, val_main_v32_apply, val_main_v31_apply]
  have e : val_main_v30 (F := Ideal) x0 x1 x2 x3 x4 x5 x6 (idx_main_v31 (idx_main_v32 (ix4 b h s j))) = val_main_v30 (F := Ideal) x0 x1 x2 x3 x4 x5 x6 (ix3 b h s) :=
    congrArg _ (funext fun a => by
      match a with
      | ⟨0, _⟩ => rfl
      | ⟨1, _⟩ => rfl
      | ⟨2, _⟩ => rfl)
  rw [e, max_at]
  rfl

theorem weight_at (b : Fin 16) (h : Fin 4) (s : Fin 4096) (j : Fin 256) :
    val_main_v38 (F := Ideal) x0 x1 x2 x3 x4 x5 x6 (ix4 b h s j)
      = Ideal.div (Ideal.exp (score x0 x1 x2 x3 x4 x5 x6 b h s j - Finset.univ.sup (score x0 x1 x2 x3 x4 x5 x6 b h s)))
        (∑ j, Ideal.exp (score x0 x1 x2 x3 x4 x5 x6 b h s j - Finset.univ.sup (score x0 x1 x2 x3 x4 x5 x6 b h s))) := by
  rw [val_main_v38_apply, val_main_v37_apply, val_main_v36_apply, val_main_v35_apply, exp_at]
  have hz : (val_main_cst_5 (F := Ideal) (Shape.Idx.first h_S_) : EReal) = 0 := by
    change Ideal.ofBits .f32 0x00000000#32 = 0
    simp [Ideal.ofBits, Ideal.ieee]
  rw [hz, zero_add]
  refine congrArg (Ideal.div _) (Finset.sum_congr rfl fun i _ => ?_)
  refine Eq.trans (congrArg (val_main_v34 (F := Ideal) x0 x1 x2 x3 x4 x5 x6) (funext fun a => ?_)) (exp_at x0 x1 x2 x3 x4 x5 x6 b h s i)
  match a with
  | ⟨0, _⟩ => rfl
  | ⟨1, _⟩ => rfl
  | ⟨2, _⟩ => rfl
  | ⟨3, _⟩ => rfl

/-- One head's result at one query and one lane of the head. -/
theorem head_at (b : Fin 16) (h : Fin 4) (d : Fin 256) (s : Fin 4096) :
    val_main_v39 (F := Ideal) x0 x1 x2 x3 x4 x5 x6 (ix4 b h d s)
      = ∑ j : Fin 256, x6 (ix2 ⟨b.val * 256 + j.val, by omega⟩ ⟨1024 + (h.val * 256 + d.val), by omega⟩)
        * Ideal.div (Ideal.exp (score x0 x1 x2 x3 x4 x5 x6 b h s j - Finset.univ.sup (score x0 x1 x2 x3 x4 x5 x6 b h s)))
          (∑ j, Ideal.exp (score x0 x1 x2 x3 x4 x5 x6 b h s j - Finset.univ.sup (score x0 x1 x2 x3 x4 x5 x6 b h s))) := by
  rw [val_main_v39_apply]
  refine Finset.sum_congr rfl fun j _ => ?_
  rw [← weight_at, ← value_at x6]
  refine congrArg₂ (· * ·) (congrArg (val_main_v24 (F := Ideal) x6) (funext fun a => ?_)) (congrArg (val_main_v38 (F := Ideal) x0 x1 x2 x3 x4 x5 x6) (funext fun a => ?_))
    <;> match a with
    | ⟨0, _⟩ => rfl
    | ⟨1, _⟩ => rfl
    | ⟨2, _⟩ => rfl
    | ⟨3, _⟩ => rfl

theorem heads_at (R : Fin 65536) (e : Fin 1024) :
    val_main_v41 (F := Ideal) x0 x1 x2 x3 x4 x5 x6 (ix2 R e)
      = val_main_v39 (F := Ideal) x0 x1 x2 x3 x4 x5 x6
        (ix4 ⟨R.val / 4096, by omega⟩ ⟨e.val / 256, by omega⟩ ⟨e.val % 256, by omega⟩ ⟨R.val % 4096, by omega⟩) := by
  rw [val_main_v41_apply, val_main_v40_apply]
  refine congrArg (val_main_v39 (F := Ideal) x0 x1 x2 x3 x4 x5 x6) (funext fun a => Fin.ext ?_)
  match a with
  | ⟨0, _⟩ => show (R.val * 1024 + e.val) / 4194304 = R.val / 4096; omega
  | ⟨1, _⟩ => show (R.val * 1024 + e.val) / 256 % 4 = e.val / 256; omega
  | ⟨2, _⟩ => show (R.val * 1024 + e.val) % 256 = e.val % 256; omega
  | ⟨3, _⟩ => show (R.val * 1024 + e.val) / 1024 % 4096 = R.val % 4096; omega

theorem result_at (R : Fin 65536) (l : Fin 1024) :
    val_main_v43 (F := Ideal) x0 x1 x2 x3 x4 x5 x6 x7 (ix2 R l)
      = row x0 x1 x2 x3 R l + ∑ e, val_main_v41 (F := Ideal) x0 x1 x2 x3 x4 x5 x6 (ix2 R e) * x7 (ix2 e l) := by
  rw [← row_at]
  pointwise [val_main_v43, val_main_v42]

end Cert.Post

end
-- ==== Proof.Post.Final.lean ====
/- The array the kernel of the output projection and the memory's attention leaves, and the reference's, as one function of the arguments' arrays. -/
module

public import proofs.«01_k».proof.Proof.Post.Step
public import proofs.«01_k».proof.Proof.Post.Reference
public import Idealize.ShloMosaic.Lib.StableHlo.ReadAt

@[expose] public section

set_option maxRecDepth 65536

noncomputable section

namespace Cert.Post

open Idealize.ShloMosaic Idealize.ShloMosaic.TcCoe Idealize.SL.Sem
open Cert.PostIdeal Cert.PostIdeal.Gen Cert.Norm Cert.Mem

variable (m : (ℓ : Loc nD τ sig) → Buf (Elt Ideal) ℓ)

theorem gain_at (c : Dev nD) (l : Fin 1024) : V m c main_v1 (ix2 0 l) = m ((c : Thread nD τ).loc main_arg4) (ix1 l) := by
  unfold V
  after_reads_at

theorem out_weights_at (c : Dev nD) (i j : Fin 1024) : V m c main_v0 (ix2 i j) = m ((c : Thread nD τ).loc main_arg3) (ix2 i j) := by
  unfold V
  after_reads_at

theorem query_weights_at (c : Dev nD) (i j : Fin 1024) : V m c main_v2 (ix2 i j) = m ((c : Thread nD τ).loc main_arg5) (ix2 i j) := by
  unfold V
  after_reads_at

theorem memory_weights_at (c : Dev nD) (i j : Fin 1024) : V m c main_v3 (ix2 i j) = m ((c : Thread nD τ).loc main_arg7) (ix2 i j) := by
  unfold V
  after_reads_at

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 4, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)

/-- Row `R` of the kernel's result, at lane `l`; row `R` attends to the 256 memory rows of its sequence. -/
def kernelAt (X : FVec Ideal S65536x1024 .f32) (yh ya : FVec Ideal S65536x512 .bf16) (w : FVec Ideal S1024x1024 .f32) (g : FVec Ideal S1024 .f32)
    (wq : FVec Ideal S1024x1024 .f32) (kv : FVec Ideal S4096x2048 .bf16) (wo : FVec Ideal S1024x1024 .f32) (R : Fin 65536) (l : Fin 1024) : EReal :=
  result (row X yh ya w R) (fun e => query X yh ya w g wq R e * Ideal.ofBits .f32 0x3D800000#32)
    (fun j d => kv (ix2 ⟨R.val / 4096 * 256 + j.val, by omega⟩ ⟨d.val, by omega⟩))
    (fun j d => kv (ix2 ⟨R.val / 4096 * 256 + j.val, by omega⟩ ⟨1024 + d.val, by omega⟩)) (fun e => wo (ix2 e l)) l

theorem final (c : Dev nD) :
    (dats m 0 c).arrAt 8 cfg0.N = fun y : S65536x1024.Idx => kernelAt (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (y 0) (y 1) := by
  refine (dats m 0 c).arrAt_eq_of_covers 8 _ (by decide +kernel) fun t hf y => ?_
  blk_simp
  rw [after0_8]
  change S1024x1024.Idx at y
  have ht : t.val < 64 := t.isLt
  idx_vars y
  have e0' : ((win0_8.blk t).view.emb (ix2 y0 y1) 0 : ℕ) = 1024 * t.val + y0.val := by
    blk_simp [idx8 t]
    omega
  have e0 : (win0_8.blk t).view.emb (ix2 y0 y1) 0 = (⟨1024 * t.val + y0.val, by omega⟩ : Fin 65536) := Fin.ext e0'
  have e1 : (win0_8.blk t).view.emb (ix2 y0 y1) 1 = y1 := by
    refine Fin.ext ?_
    blk_simp [idx8 t]
  rw [e0, e1]
  have hx (j : Fin 1024) : iblk m c 0 t (ix2 y0 j) = m ((c : Thread nD τ).loc main_arg0) (ix2 ⟨1024 * t.val + y0.val, by omega⟩ j) := by
    rw [← V_main_arg0 m c]
    blk_ext [iblk, idx0 t]
  have hh (k : Fin 512) : iblk m c 1 t (ix2 y0 k) = m ((c : Thread nD τ).loc main_arg1) (ix2 ⟨1024 * t.val + y0.val, by omega⟩ k) := by
    rw [← V_main_arg1 m c]
    blk_ext [iblk, idx1 t]
  have ha (k : Fin 512) : iblk m c 2 t (ix2 y0 k) = m ((c : Thread nD τ).loc main_arg2) (ix2 ⟨1024 * t.val + y0.val, by omega⟩ k) := by
    rw [← V_main_arg2 m c]
    blk_ext [iblk, idx2 t]
  have hw (k j : Fin 1024) : iblk m c 3 t (ix2 k j) = m ((c : Thread nD τ).loc main_arg3) (ix2 k j) := by
    rw [← out_weights_at m c]
    blk_ext [iblk, idx3 t]
  have hg (j : Fin 1024) : iblk m c 4 t (ix2 0 j) = m ((c : Thread nD τ).loc main_arg4) (ix1 j) := by
    rw [← gain_at m c]
    blk_ext [iblk, idx4 t]
  have hq (k j : Fin 1024) : iblk m c 5 t (ix2 k j) = m ((c : Thread nD τ).loc main_arg5) (ix2 k j) := by
    rw [← query_weights_at m c]
    blk_ext [iblk, idx5 t]
  have hk (j : Fin 256) (d : Fin 2048) : iblk m c 6 t (ix2 j d)
      = m ((c : Thread nD τ).loc main_arg6) (ix2 ⟨(1024 * t.val + y0.val) / 4096 * 256 + j.val, by omega⟩ d) := by
    rw [← V_main_arg6 m c, show (⟨(1024 * t.val + y0.val) / 4096 * 256 + j.val, by omega⟩ : Fin 4096) = ⟨256 * (t.val / 4) + j.val, by omega⟩ from
      Fin.ext (by show (1024 * t.val + y0.val) / 4096 * 256 + j.val = 256 * (t.val / 4) + j.val; omega)]
    blk_ext [iblk, idx6 t]
  have ho (e : Fin 1024) : iblk m c 7 t (ix2 e y1) = m ((c : Thread nD τ).loc main_arg7) (ix2 e y1) := by
    rw [← memory_weights_at m c]
    blk_ext [iblk, idx7 t]
  refine (out_at (iblk m c 0 t) (iblk m c 1 t) (iblk m c 2 t) (iblk m c 3 t) (iblk m c 4 t) (iblk m c 5 t) (iblk m c 6 t) (iblk m c 7 t) y0 y1
    (row (m ((c : Thread nD τ).loc main_arg0)) (m ((c : Thread nD τ).loc main_arg1)) (m ((c : Thread nD τ).loc main_arg2)) (m ((c : Thread nD τ).loc main_arg3))
      ⟨1024 * t.val + y0.val, by omega⟩) ?_).trans ?_
  · unfold row
    rw [← funext hx, ← funext hh, ← funext ha, ← funext fun k => funext (hw k)]
  · unfold kernelAt query
    simp only [hg, hq, hk, ho]

/-- The reference's result at row `R` and lane `l` is the kernel's, of finite gains, queries' weights and keys. -/
theorem ref_at (X : FVec Ideal S65536x1024 .f32) (yh ya : FVec Ideal S65536x512 .bf16) (w : FVec Ideal S1024x1024 .f32) (g : FVec Ideal S1024 .f32)
    (wq : FVec Ideal S1024x1024 .f32) (kv : FVec Ideal S4096x2048 .bf16) (wo : FVec Ideal S1024x1024 .f32)
    (hg : ∀ k, IsReal (g (ix1 k))) (hq : ∀ k l, IsReal (wq (ix2 k l))) (hk : ∀ (R : Fin 4096) (l : Fin 1024), IsReal (kv (ix2 R ⟨l.val, by omega⟩)))
    (R : Fin 65536) (l : Fin 1024) :
    Cert.PostReferenceIdeal.Read.val_main_v43 (F := Ideal) X yh ya w g wq kv wo (ix2 R l) = kernelAt X yh ya w g wq kv wo R l := by
  have hquery (S : Fin 65536) (e : Fin 1024) : IsReal (query X yh ya w g wq S e) := by
    unfold query proj
    exact IsReal.sum _ _ fun k => (normed_real _ _ hg k).mul (hq k e)
  have hscore (b : Fin 16) (h : Fin 4) (s : Fin 4096) (j : Fin 256) : IsReal (score X yh ya w g wq kv b h s j) := by
    unfold score
    exact (IsReal.sum _ _ fun d : Fin 256 => (hquery _ _).mul (hk _ ⟨h.val * 256 + d.val, by omega⟩)).mul ⟨_, scale_word⟩
  rw [result_at]
  unfold kernelAt result
  refine congrArg (fun z : EReal => row X yh ya w R l + z) (Finset.sum_congr rfl fun e _ => congrArg (fun z : EReal => z * wo (ix2 e l)) ?_)
  rw [heads_at, head_at, ← weigh_eq _ _ (hscore _ _ _)]
  unfold head
  refine congrArg₂ weigh (funext fun j => ?_) (funext fun j => congrArg kv (congrArg (ix2 _) (Fin.ext ?_)))
  · rw [score_scaled _ _ (fun d => hquery R _) fun d => hk _ ⟨e.val / 256 * 256 + d.val, by omega⟩]
    unfold score
    rw [show (⟨R.val / 4096 * 4096 + R.val % 4096, by omega⟩ : Fin 65536) = R from
      Fin.ext (by show R.val / 4096 * 4096 + R.val % 4096 = R.val; omega)]
  · show 1024 + (e.val / 256 * 256 + e.val % 256) = 1024 + e.val
    omega

end Cert.Post

end
-- ==== Proof.Post.Finite.lean ====
/- What the precondition says: the norm's gain, the queries' weights and the memory's keys are real numbers. -/
module

public import proofs.«01_k».proof.Proof.Post.Soft
public import proofs.«01_k».proof.Proof.Attn.Finite
public import proofs.«01_k».proof.Proof.Gen.Pre_finite_keys
public import Idealize.ShloMosaic.Lib.ReduceAll

@[expose] public section

set_option maxRecDepth 16384

noncomputable section

namespace Cert.Post

open Idealize.ShloMosaic Cert.Pre_finite_keys Cert.Mem

theorem finite_of_pre [Cert.Pre_finite_keys.Facts] (x0 : FVec Ideal S65536x1024 .f32) (x1 x2 : FVec Ideal S65536x512 .bf16) (x3 : FVec Ideal S1024x1024 .f32)
    (x4 : FVec Ideal S1024 .f32) (x5 : FVec Ideal S1024x1024 .f32) (x6 : FVec Ideal S4096x2048 .bf16) (x7 : FVec Ideal S1024x1024 .f32)
    (h : Cert.Pre_finite_keys.fn (F := Ideal) x0 x1 x2 x3 x4 x5 x6 x7 = fun _ => 1#1) :
    (∀ k, IsReal (x4 (ix1 k))) ∧ (∀ k l, IsReal (x5 (ix2 k l)))
      ∧ ∀ (R : Fin 4096) (l : Fin 1024), IsReal (x6 (ix2 R ⟨l.val, by omega⟩)) := by
  haveI : Subsingleton S_.Idx := ⟨fun a b => funext fun i => i.elim0⟩
  have h0 := congrFun h ix0
  obtain ⟨hab, hc⟩ := IntOp.andi_eq_one.1 h0
  obtain ⟨ha, hb⟩ := IntOp.andi_eq_one.1 hab
  refine ⟨fun k => real_of_ne (Attn.real_of_size _ (Host.reduce_andi_all _ _ _ _ _ ha (ix1 k))),
    fun k l => real_of_ne (Attn.real_of_size _ (Host.reduce_andi_all _ _ _ _ _ hb (ix2 k l))), fun R l => ?_⟩
  have e := Host.reduce_andi_all _ _ _ _ _ hc (ix2 R l)
  refine real_of_ne (Attn.real_of_size _ (Eq.trans ?_ e))
  refine congrArg (fun w => Ideal.cmp .olt (max w (-w)) (Ideal.ofBits .f32 0x7F800000#32)) (congrArg x6 (funext fun a => Fin.ext ?_))
  match a with
  | ⟨0, _⟩ => show R.val = 0 + R.val; omega
  | ⟨1, _⟩ => show l.val = 0 + l.val; omega

end Cert.Post

end
-- ==== Proof.Combine.Blend.lean ====
/- The residual and the two experts' results weighted by the gates, as one function of the arguments' arrays. -/
module

public import proofs.«01_k».proof.Proof.Proj.Norm
public import Idealize.ShloMosaic.Lib.Pipeline.ValueKit

@[expose] public section

noncomputable section

namespace Cert.Combine

open Idealize.ShloMosaic Idealize.ShloMosaic.TcCoe

/-- Two values weighted by two gates, added to the residual. -/
def blend (x g0 g1 a b : EReal) : EReal := x + (g0 * a + g1 * b)

/-- The packed results hold a token's 1024 lanes as eight rows of 128: lane tile `s` of a block of 1024 tokens is every eighth row from row `s`. -/
def tile (y : FVec Ideal ⟨2, ![8192, 128]⟩ .f32) (s : Fin 8) : FVec Ideal ⟨2, ![1024, 128]⟩ .f32 :=
  fun i => y (ix2 ⟨(i 0).val * 8 + s.val, by have h : (i 0).val < 1024 := (i 0).isLt; omega⟩ (i 1))

/-- Eight tiles of 128 lanes, read at lane `l`. -/
def spread (w : Fin 8 → Fin 128 → EReal) (l : Fin 1024) : EReal := w ⟨l.val / 128, by omega⟩ ⟨l.val % 128, by omega⟩

theorem spread_eq (w : Fin 8 → Fin 128 → EReal) (l : Fin 1024) (s : Fin 8) (d : Fin 128) (h : s.val * 128 + d.val = l.val) : w s d = spread w l :=
  congrArg₂ w (Fin.ext (by show s.val = l.val / 128; omega)) (Fin.ext (by show d.val = l.val % 128; omega))

/-- A value picked by comparing the lane with each tile's end in turn. -/
theorem branches_eq (w : Fin 8 → Fin 128 → EReal) (l : Fin 1024) :
    (if h : l.val < 128 then w 0 ⟨l.val, h⟩
      else if h : l.val - 128 < 128 then w 1 ⟨l.val - 128, h⟩
      else if h : l.val - 128 - 128 < 128 then w 2 ⟨l.val - 128 - 128, h⟩
      else if h : l.val - 128 - 128 - 128 < 128 then w 3 ⟨l.val - 128 - 128 - 128, h⟩
      else if h : l.val - 128 - 128 - 128 - 128 < 128 then w 4 ⟨l.val - 128 - 128 - 128 - 128, h⟩
      else if h : l.val - 128 - 128 - 128 - 128 - 128 < 128 then w 5 ⟨l.val - 128 - 128 - 128 - 128 - 128, h⟩
      else if h : l.val - 128 - 128 - 128 - 128 - 128 - 128 < 128 then w 6 ⟨l.val - 128 - 128 - 128 - 128 - 128 - 128, h⟩
      else w 7 ⟨l.val - 128 - 128 - 128 - 128 - 128 - 128 - 128, by omega⟩) = spread w l := by
  split_ifs with h0 h1 h2 h3 h4 h5 h6
  · exact spread_eq w l 0 _ (by show 0 * 128 + l.val = l.val; omega)
  · exact spread_eq w l 1 _ (by show 1 * 128 + (l.val - 128) = l.val; omega)
  · exact spread_eq w l 2 _ (by show 2 * 128 + (l.val - 128 - 128) = l.val; omega)
  · exact spread_eq w l 3 _ (by show 3 * 128 + (l.val - 128 - 128 - 128) = l.val; omega)
  · exact spread_eq w l 4 _ (by show 4 * 128 + (l.val - 128 - 128 - 128 - 128) = l.val; omega)
  · exact spread_eq w l 5 _ (by show 5 * 128 + (l.val - 128 - 128 - 128 - 128 - 128) = l.val; omega)
  · exact spread_eq w l 6 _ (by show 6 * 128 + (l.val - 128 - 128 - 128 - 128 - 128 - 128) = l.val; omega)
  · exact spread_eq w l 7 _ (by show 7 * 128 + (l.val - 128 - 128 - 128 - 128 - 128 - 128 - 128) = l.val; omega)

/-- Row `R` of the layer's result at lane `l`: the first expert's row of token `R` is packed row `R`, the second's is 65536 further. -/
def blendAt (h : FVec Ideal ⟨2, ![65536, 1024]⟩ .f32) (g : FVec Ideal ⟨2, ![8, 65536]⟩ .f32) (y : FVec Ideal ⟨2, ![1064704, 128]⟩ .f32)
    (R : Fin 65536) (l : Fin 1024) : EReal :=
  blend (h (ix2 R l)) (g (ix2 0 R)) (g (ix2 1 R)) (y (ix2 ⟨R.val * 8 + l.val / 128, by omega⟩ ⟨l.val % 128, by omega⟩))
    (y (ix2 ⟨(65536 + R.val) * 8 + l.val / 128, by omega⟩ ⟨l.val % 128, by omega⟩))

end Cert.Combine

end
-- ==== Proof.Combine.Plain.lean ====
/- The combination's kernel: what it stores, the array it leaves, and the reference's. -/
module

public import proofs.«01_k».proof.Proof.Combine.Blend
public import proofs.«01_k».proof.Proof.Gen.CombineIdeal.Value
public import proofs.«01_k».proof.Proof.Gen.CombineReferenceIdeal.Read
public import Idealize.ShloMosaic.Lib.StableHlo.ReadAt

@[expose] public section

set_option maxRecDepth 65536

noncomputable section

namespace Cert.Combine

open Idealize.ShloMosaic Idealize.ShloMosaic.TcCoe Idealize.SL.Sem
open Cert.CombineIdeal Cert.CombineIdeal.Gen Cert.Norm

variable (m : (ℓ : Loc nD τ sig) → Buf (Elt Ideal) ℓ)

/-- What the kernel stores, of the two experts' lane tiles. -/
def stored (h : FVec Ideal S1024x1024 .f32) (g : FVec Ideal S8x1024 .f32) (a b : Fin 8 → FVec Ideal S1024x128 .f32) : FVec Ideal S1024x1024 .f32 :=
  k0_pay1 (k0_pay3 g) (k0_pay4 g) (k0_pay5 g (a 0) (b 0)) (k0_pay6 g (a 1) (b 1)) (k0_pay7 g (a 2) (b 2)) (k0_pay8 g (a 3) (b 3))
    (k0_pay9 g (a 4)) (b 4) (k0_pay10 g) (a 5) (b 5) (a 6) (b 6) (a 7) (b 7) h

theorem stored_at (h : FVec Ideal S1024x1024 .f32) (g : FVec Ideal S8x1024 .f32) (a b : Fin 8 → FVec Ideal S1024x128 .f32) (r l : Fin 1024) :
    stored h g a b (ix2 r l)
      = h (ix2 r l) + spread (fun s d => g (ix2 0 r) * a s (ix2 r d) + g (ix2 1 r) * b s (ix2 r d)) l := by
  unfold stored
  pointwise [k0_pay1, k0_pay2, k0_pay3, k0_pay4, k0_pay5, k0_pay6, k0_pay7, k0_pay8, k0_pay9, k0_pay10]
  exact congrArg (fun z : EReal => h (ix2 r l) + z) (branches_eq (fun s d => g (ix2 0 r) * a s (ix2 r d) + g (ix2 1 r) * b s (ix2 r d)) l)

/-- Every eighth row of a block, from row `n`. -/
theorem read_tile (M : Memref sig .tc .vmem S8192x128 .f32) (hM : M.IsWhole) (X : Vec Ideal S8192x128 .f32) (n : ℕ) (hn : n < 8)
    (inb : ∀ a, S1024x128.size a = 0 ∨ (![n, 0] : Fin 2 → Nat) a + (![8, 1] : Fin 2 → Nat) a * (S1024x128.size a - 1) < S8192x128.size a) :
    View.readAt (Elt Ideal) M.view (⟨![n, 0], ![1024, 128], ![8, 1], inb⟩ : LoadRect S8192x128) (hM.unread X) = tile X ⟨n, hn⟩ := by
  funext i
  rw [View.readAt_apply, hM.read_unread]
  refine congrArg X (funext fun a => Fin.ext ?_)
  fin_cases a
  · show n + 8 * (i 0).val = (i 0).val * 8 + n
    omega
  · show 0 + 1 * (i 1).val = (i 1).val
    omega

theorem outs_eq (c : Dev nD) (t : Fin cfg0.N) :
    outsAt0 m c t = stored (iblk m c 0 t) (iblk m c 1 t) (tile (X0_3 m c t)) (tile (X0_4 m c t)) := by
  unfold outsAt0
  frame_out
  simp (disch := decide) only [read_tile]
  rfl

/-- A step's result at row `r` and lane `l`. -/
theorem outs_at (c : Dev nD) (t : Fin cfg0.N) (r l : Fin 1024) :
    outsAt0 m c t (ix2 r l) = blend (iblk m c 0 t (ix2 r l)) (iblk m c 1 t (ix2 0 r)) (iblk m c 1 t (ix2 1 r))
      (X0_3 m c t (ix2 (⟨r.val * 8 + l.val / 128, by omega⟩ : Fin 8192) (⟨l.val % 128, by omega⟩ : Fin 128)))
      (X0_4 m c t (ix2 (⟨r.val * 8 + l.val / 128, by omega⟩ : Fin 8192) (⟨l.val % 128, by omega⟩ : Fin 128))) := by
  rw [outs_eq, stored_at]
  rfl

theorem idx0 : ∀ t : Fin cfg0.N, win0_0.index t = ![t.val, 0] := (by decide +kernel : ∀ t : Fin grid0.N, _)
theorem idx1 : ∀ t : Fin cfg0.N, win0_1.index t = ![0, t.val] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val + 64, 0] := (by decide +kernel : ∀ t : Fin grid0.N, _)
theorem idx5 : ∀ t : Fin cfg0.N, win0_5.index t = ![t.val, 0] := (by decide +kernel : ∀ t : Fin grid0.N, _)

/-- The first expert's packed rows, at step `t`. -/
theorem first_at (c : Dev nD) (t : Fin cfg0.N) (i : Fin 8192) (d : Fin 128) :
    X0_3 m c t (ix2 i d) = m ((c : Thread nD τ).loc main_arg3) (ix2 ⟨t.val * 8192 + i.val, by have h : t.val < 64 := t.isLt; omega⟩ d) := by
  unfold X0_3
  refine ((cfg0.win 3).fill_xinj (cfg0.grid.coords t) dflt0_3 (iblk m c 3 t)
    (fun a => ⟨((ix2 i d : S8192x128.Idx) a).val, lt_of_lt_of_eq ((ix2 i d : S8192x128.Idx) a).isLt (xsize0_3 t a).symm⟩)).trans ?_
  rw [← V_main_arg3 m c]
  refine congrArg (V m c main_arg3) (funext fun a => Fin.ext ?_)
  refine (Pipeline.Window.rect_emb_val win0_3 t _ a).trans ?_
  rw [idx3 t]
  fin_cases a
  · rfl
  · exact Nat.zero_add _

/-- The second expert's, 65536 tokens further. -/
theorem second_at (c : Dev nD) (t : Fin cfg0.N) (i : Fin 8192) (d : Fin 128) :
    X0_4 m c t (ix2 i d) = m ((c : Thread nD τ).loc main_arg3) (ix2 ⟨(t.val + 64) * 8192 + i.val, by have h : t.val < 64 := t.isLt; omega⟩ d) := by
  unfold X0_4
  refine ((cfg0.win 4).fill_xinj (cfg0.grid.coords t) dflt0_4 (iblk m c 4 t)
    (fun a => ⟨((ix2 i d : S8192x128.Idx) a).val, lt_of_lt_of_eq ((ix2 i d : S8192x128.Idx) a).isLt (xsize0_4 t a).symm⟩)).trans ?_
  rw [← V_main_arg3 m c]
  refine congrArg (V m c main_arg3) (funext fun a => Fin.ext ?_)
  refine (Pipeline.Window.rect_emb_val win0_4 t _ a).trans ?_
  rw [idx4 t]
  fin_cases a
  · rfl
  · exact Nat.zero_add _

theorem final (c : Dev nD) :
    (dats m 0 c).arrAt 5 cfg0.N = fun y : S65536x1024.Idx => blendAt (m ((c : Thread nD τ).loc main_arg0)) (m ((c : Thread nD τ).loc main_arg1))
      (m ((c : Thread nD τ).loc main_arg3)) (y 0) (y 1) := by
  refine (dats m 0 c).arrAt_eq_of_covers 5 _ (by decide +kernel) fun t hf y => ?_
  blk_simp
  rw [after0_5]
  change S1024x1024.Idx at y
  have ht : t.val < 64 := t.isLt
  idx_vars y
  have e0' : ((win0_5.blk t).view.emb (ix2 y0 y1) 0 : ℕ) = 1024 * t.val + y0.val := by
    blk_simp [idx5 t]
    omega
  have e0 : (win0_5.blk t).view.emb (ix2 y0 y1) 0 = (⟨1024 * t.val + y0.val, by omega⟩ : Fin 65536) := Fin.ext e0'
  have e1 : (win0_5.blk t).view.emb (ix2 y0 y1) 1 = y1 := by
    refine Fin.ext ?_
    blk_simp [idx5 t]
  rw [e0, e1]
  have hx : iblk m c 0 t (ix2 y0 y1) = m ((c : Thread nD τ).loc main_arg0) (ix2 ⟨1024 * t.val + y0.val, by omega⟩ y1) := by
    rw [← V_main_arg0 m c]
    blk_ext [iblk, idx0 t]
  have hg (e : Fin 8) : iblk m c 1 t (ix2 e y0) = m ((c : Thread nD τ).loc main_arg1) (ix2 e ⟨1024 * t.val + y0.val, by omega⟩) := by
    rw [← V_main_arg1 m c]
    blk_ext [iblk, idx1 t]
  have ha : X0_3 m c t (ix2 (⟨y0.val * 8 + y1.val / 128, by omega⟩ : Fin 8192) (⟨y1.val % 128, by omega⟩ : Fin 128))
      = m ((c : Thread nD τ).loc main_arg3) (ix2 ⟨(1024 * t.val + y0.val) * 8 + y1.val / 128, by omega⟩ ⟨y1.val % 128, by omega⟩) := by
    rw [first_at]
    exact congrArg (fun i => m ((c : Thread nD τ).loc main_arg3) (ix2 i _))
      (Fin.ext (by show t.val * 8192 + (y0.val * 8 + y1.val / 128) = (1024 * t.val + y0.val) * 8 + y1.val / 128; omega))
  have hb : X0_4 m c t (ix2 (⟨y0.val * 8 + y1.val / 128, by omega⟩ : Fin 8192) (⟨y1.val % 128, by omega⟩ : Fin 128))
      = m ((c : Thread nD τ).loc main_arg3) (ix2 ⟨(65536 + (1024 * t.val + y0.val)) * 8 + y1.val / 128, by omega⟩ ⟨y1.val % 128, by omega⟩) := by
    rw [second_at]
    exact congrArg (fun i => m ((c : Thread nD τ).loc main_arg3) (ix2 i _))
      (Fin.ext (by show (t.val + 64) * 8192 + (y0.val * 8 + y1.val / 128) = (65536 + (1024 * t.val + y0.val)) * 8 + y1.val / 128; omega))
  refine (outs_at m c t y0 y1).trans ?_
  unfold blendAt
  rw [hx, hg, hg, ha, hb]

open Cert.CombineReferenceIdeal.Read in
/-- The reference's result at row `R` and lane `l` is the kernel's. -/
theorem ref_at (h : FVec Ideal S65536x1024 .f32) (g : FVec Ideal S8x65536 .f32) (y : FVec Ideal S1064704x128 .f32) (R : Fin 65536) (l : Fin 1024) :
    val_main_v14 (F := Ideal) h g y (ix2 R l) = blendAt h g y R l := by
  unfold blendAt blend
  pointwise [val_main_v0, val_main_v1, val_main_v2, val_main_v3, val_main_v4, val_main_v5, val_main_v6, val_main_v7, val_main_v8, val_main_v9,
    val_main_v10, val_main_v11, val_main_v12, val_main_v13, val_main_v14]

end Cert.Combine

end
-- ==== Proof.Combine.Normed.lean ====
/- The combination's kernel with the final norm: what it stores, the array it leaves, and the reference's. -/
module

public import proofs.«01_k».proof.Proof.Combine.Blend
public import proofs.«01_k».proof.Proof.Gen.CombineFinalIdeal.Value
public import proofs.«01_k».proof.Proof.Gen.CombineFinalReferenceIdeal.Read
public import Idealize.ShloMosaic.Lib.StableHlo.ReadAt

@[expose] public section

set_option maxRecDepth 65536

noncomputable section

namespace Cert.CombineFinal

open Idealize.ShloMosaic Idealize.ShloMosaic.TcCoe Idealize.SL.Sem
open Cert.CombineFinalIdeal Cert.CombineFinalIdeal.Gen Cert.Norm Cert.Combine

variable (m : (ℓ : Loc nD τ sig) → Buf (Elt Ideal) ℓ)

/-- What the kernel stores, of the two experts' lane tiles. -/
def stored (h : FVec Ideal S1024x1024 .f32) (g : FVec Ideal S8x1024 .f32) (w : FVec Ideal S1x1024 .f32) (a b : Fin 8 → FVec Ideal S1024x128 .f32) :
    FVec Ideal S1024x1024 .f32 :=
  k0_pay10 (k0_pay2 g) (k0_pay3 g) (k0_pay4 g (a 0) (b 0)) (k0_pay5 g (a 1) (b 1)) (k0_pay6 g (a 2) (b 2)) (k0_pay7 g (a 3) (b 3))
    (k0_pay8 g (a 4)) (b 4) (k0_pay9 g) (a 5) (b 5) (a 6) (b 6) (a 7) (b 7) h w

theorem stored_at (h : FVec Ideal S1024x1024 .f32) (g : FVec Ideal S8x1024 .f32) (w : FVec Ideal S1x1024 .f32) (a b : Fin 8 → FVec Ideal S1024x128 .f32)
    (r l : Fin 1024) :
    stored h g w a b (ix2 r l)
      = normed (fun j => h (ix2 r j) + spread (fun s d => g (ix2 0 r) * a s (ix2 r d) + g (ix2 1 r) * b s (ix2 r d)) j) (fun j => w (ix2 0 j)) l := by
  have e (j : Fin 1024) := branches_eq (fun s d => g (ix2 0 r) * a s (ix2 r d) + g (ix2 1 r) * b s (ix2 r d)) j
  unfold stored normed
  simp only [← e]
  pointwise [k0_pay1, k0_pay2, k0_pay3, k0_pay4, k0_pay5, k0_pay6, k0_pay7, k0_pay8, k0_pay9, k0_pay10]

/-- Every eighth row of a block, from row `n`. -/
theorem read_tile (M : Memref sig .tc .vmem S8192x128 .f32) (hM : M.IsWhole) (X : Vec Ideal S8192x128 .f32) (n : ℕ) (hn : n < 8)
    (inb : ∀ a, S1024x128.size a = 0 ∨ (![n, 0] : Fin 2 → Nat) a + (![8, 1] : Fin 2 → Nat) a * (S1024x128.size a - 1) < S8192x128.size a) :
    View.readAt (Elt Ideal) M.view (⟨![n, 0], ![1024, 128], ![8, 1], inb⟩ : LoadRect S8192x128) (hM.unread X) = tile X ⟨n, hn⟩ := by
  funext i
  rw [View.readAt_apply, hM.read_unread]
  refine congrArg X (funext fun a => Fin.ext ?_)
  fin_cases a
  · show n + 8 * (i 0).val = (i 0).val * 8 + n
    omega
  · show 0 + 1 * (i 1).val = (i 1).val
    omega

theorem outs_eq (c : Dev nD) (t : Fin cfg0.N) :
    outsAt0 m c t = stored (iblk m c 0 t) (iblk m c 1 t) (iblk m c 2 t) (tile (X0_3 m c t)) (tile (X0_4 m c t)) := by
  unfold outsAt0
  frame_out
  simp (disch := decide) only [read_tile]
  rfl

/-- A step's result at row `r` and lane `l`. -/
theorem outs_at (c : Dev nD) (t : Fin cfg0.N) (r l : Fin 1024) :
    outsAt0 m c t (ix2 r l) = normed (fun j => blend (iblk m c 0 t (ix2 r j)) (iblk m c 1 t (ix2 0 r)) (iblk m c 1 t (ix2 1 r))
      (X0_3 m c t (ix2 (⟨r.val * 8 + j.val / 128, by omega⟩ : Fin 8192) (⟨j.val % 128, by omega⟩ : Fin 128)))
      (X0_4 m c t (ix2 (⟨r.val * 8 + j.val / 128, by omega⟩ : Fin 8192) (⟨j.val % 128, by omega⟩ : Fin 128)))) (fun j => iblk m c 2 t (ix2 0 j)) l := by
  rw [outs_eq, stored_at]
  rfl

theorem idx0 : ∀ t : Fin cfg0.N, win0_0.index t = ![t.val, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val + 64, 0] := (by decide +kernel : ∀ t : Fin grid0.N, _)
theorem idx5 : ∀ t : Fin cfg0.N, win0_5.index t = ![t.val, 0] := (by decide +kernel : ∀ t : Fin grid0.N, _)

theorem gain_at (c : Dev nD) (l : Fin 1024) : V m c main_v0 (ix2 0 l) = m ((c : Thread nD τ).loc main_arg2) (ix1 l) := by
  unfold V
  after_reads_at

/-- The first expert's packed rows, at step `t`. -/
theorem first_at (c : Dev nD) (t : Fin cfg0.N) (i : Fin 8192) (d : Fin 128) :
    X0_3 m c t (ix2 i d) = m ((c : Thread nD τ).loc main_arg3) (ix2 ⟨t.val * 8192 + i.val, by have h : t.val < 64 := t.isLt; omega⟩ d) := by
  unfold X0_3
  refine ((cfg0.win 3).fill_xinj (cfg0.grid.coords t) dflt0_3 (iblk m c 3 t)
    (fun a => ⟨((ix2 i d : S8192x128.Idx) a).val, lt_of_lt_of_eq ((ix2 i d : S8192x128.Idx) a).isLt (xsize0_3 t a).symm⟩)).trans ?_
  rw [← V_main_arg3 m c]
  refine congrArg (V m c main_arg3) (funext fun a => Fin.ext ?_)
  refine (Pipeline.Window.rect_emb_val win0_3 t _ a).trans ?_
  rw [idx3 t]
  fin_cases a
  · rfl
  · exact Nat.zero_add _

/-- The second expert's, 65536 tokens further. -/
theorem second_at (c : Dev nD) (t : Fin cfg0.N) (i : Fin 8192) (d : Fin 128) :
    X0_4 m c t (ix2 i d) = m ((c : Thread nD τ).loc main_arg3) (ix2 ⟨(t.val + 64) * 8192 + i.val, by have h : t.val < 64 := t.isLt; omega⟩ d) := by
  unfold X0_4
  refine ((cfg0.win 4).fill_xinj (cfg0.grid.coords t) dflt0_4 (iblk m c 4 t)
    (fun a => ⟨((ix2 i d : S8192x128.Idx) a).val, lt_of_lt_of_eq ((ix2 i d : S8192x128.Idx) a).isLt (xsize0_4 t a).symm⟩)).trans ?_
  rw [← V_main_arg3 m c]
  refine congrArg (V m c main_arg3) (funext fun a => Fin.ext ?_)
  refine (Pipeline.Window.rect_emb_val win0_4 t _ a).trans ?_
  rw [idx4 t]
  fin_cases a
  · rfl
  · exact Nat.zero_add _

theorem final (c : Dev nD) :
    (dats m 0 c).arrAt 5 cfg0.N = fun y : S65536x1024.Idx =>
      normed (blendAt (m ((c : Thread nD τ).loc main_arg0)) (m ((c : Thread nD τ).loc main_arg1)) (m ((c : Thread nD τ).loc main_arg3)) (y 0))
        (fun j => m ((c : Thread nD τ).loc main_arg2) (ix1 j)) (y 1) := by
  refine (dats m 0 c).arrAt_eq_of_covers 5 _ (by decide +kernel) fun t hf y => ?_
  blk_simp
  rw [after0_5]
  change S1024x1024.Idx at y
  have ht : t.val < 64 := t.isLt
  idx_vars y
  have e0' : ((win0_5.blk t).view.emb (ix2 y0 y1) 0 : ℕ) = 1024 * t.val + y0.val := by
    blk_simp [idx5 t]
    omega
  have e0 : (win0_5.blk t).view.emb (ix2 y0 y1) 0 = (⟨1024 * t.val + y0.val, by omega⟩ : Fin 65536) := Fin.ext e0'
  have e1 : (win0_5.blk t).view.emb (ix2 y0 y1) 1 = y1 := by
    refine Fin.ext ?_
    blk_simp [idx5 t]
  rw [e0, e1]
  have hx (j : Fin 1024) : iblk m c 0 t (ix2 y0 j) = m ((c : Thread nD τ).loc main_arg0) (ix2 ⟨1024 * t.val + y0.val, by omega⟩ j) := by
    rw [← V_main_arg0 m c]
    blk_ext [iblk, idx0 t]
  have hw (j : Fin 1024) : iblk m c 2 t (ix2 0 j) = m ((c : Thread nD τ).loc main_arg2) (ix1 j) := by
    rw [← gain_at m c]
    blk_ext [iblk, idx2 t]
  have hg (e : Fin 8) : iblk m c 1 t (ix2 e y0) = m ((c : Thread nD τ).loc main_arg1) (ix2 e ⟨1024 * t.val + y0.val, by omega⟩) := by
    rw [← V_main_arg1 m c]
    blk_ext [iblk, idx1 t]
  have ha (j : Fin 1024) : X0_3 m c t (ix2 (⟨y0.val * 8 + j.val / 128, by omega⟩ : Fin 8192) (⟨j.val % 128, by omega⟩ : Fin 128))
      = m ((c : Thread nD τ).loc main_arg3) (ix2 ⟨(1024 * t.val + y0.val) * 8 + j.val / 128, by omega⟩ ⟨j.val % 128, by omega⟩) := by
    rw [first_at]
    exact congrArg (fun i => m ((c : Thread nD τ).loc main_arg3) (ix2 i _))
      (Fin.ext (by show t.val * 8192 + (y0.val * 8 + j.val / 128) = (1024 * t.val + y0.val) * 8 + j.val / 128; omega))
  have hb (j : Fin 1024) : X0_4 m c t (ix2 (⟨y0.val * 8 + j.val / 128, by omega⟩ : Fin 8192) (⟨j.val % 128, by omega⟩ : Fin 128))
      = m ((c : Thread nD τ).loc main_arg3) (ix2 ⟨(65536 + (1024 * t.val + y0.val)) * 8 + j.val / 128, by omega⟩ ⟨j.val % 128, by omega⟩) := by
    rw [second_at]
    exact congrArg (fun i => m ((c : Thread nD τ).loc main_arg3) (ix2 i _))
      (Fin.ext (by show (t.val + 64) * 8192 + (y0.val * 8 + j.val / 128) = (65536 + (1024 * t.val + y0.val)) * 8 + j.val / 128; omega))
  refine (outs_at m c t y0 y1).trans ?_
  unfold blendAt
  simp only [hx, hg, ha, hb, hw]

open Cert.CombineFinalReferenceIdeal.Read in
/-- The reference's sum at row `R` and lane `l` is the kernel's. -/
theorem sum_at (h : FVec Ideal S65536x1024 .f32) (g : FVec Ideal S8x65536 .f32) (y : FVec Ideal S1064704x128 .f32) (R : Fin 65536) (l : Fin 1024) :
    val_main_v14 (F := Ideal) h g y (ix2 R l) = blendAt h g y R l := by
  unfold blendAt blend
  pointwise [val_main_v0, val_main_v1, val_main_v2, val_main_v3, val_main_v4, val_main_v5, val_main_v6, val_main_v7, val_main_v8, val_main_v9,
    val_main_v10, val_main_v11, val_main_v12, val_main_v13, val_main_v14]

open Cert.CombineFinalReferenceIdeal.Read in
/-- The reference's result at row `R` and lane `l` is the kernel's. -/
theorem ref_at (h : FVec Ideal S65536x1024 .f32) (g : FVec Ideal S8x65536 .f32) (w : FVec Ideal S1024 .f32) (y : FVec Ideal S1064704x128 .f32)
    (R : Fin 65536) (l : Fin 1024) :
    val_main_v27 (F := Ideal) h g w y (ix2 R l) = normed (blendAt h g y R) (fun j => w (ix1 j)) l := by
  rw [← funext (sum_at h g y R)]
  generalize e : val_main_v14 (F := Ideal) h g y = z
  unfold normed
  pointwise [e, val_main_v15, val_main_v16, val_main_v17, val_main_v18, val_main_v19, val_main_v20, val_main_v21, val_main_v22, val_main_v23,
    val_main_v24, val_main_v25, val_main_v26, val_main_v27, val_main_cst, val_main_cst_0, val_main_cst_1]

end Cert.CombineFinal

end
-- ==== Proof.lean ====
module

public import proofs.«01_k».proof.Defs
public import proofs.«01_k».proof.Proof.Attn.Bridge
public import proofs.«01_k».proof.Proof.Attn.Finite
public import proofs.«01_k».proof.Proof.Gen.Kernel.Frame
public import proofs.«01_k».proof.Proof.Gen.ReferenceIdeal.Run
public import proofs.«01_k».proof.Proof.Proj.InProj
public import proofs.«01_k».proof.Proof.Proj.MemKv
public import proofs.«01_k».proof.Proof.Ffn.Final
public import proofs.«01_k».proof.Proof.Post.Final
public import proofs.«01_k».proof.Proof.Post.Finite
public import proofs.«01_k».proof.Proof.Combine.Plain
public import proofs.«01_k».proof.Proof.Combine.Normed
public import proofs.«01_k».proof.Proof.Gen.Combine.Frame
public import proofs.«01_k».proof.Proof.Gen.CombineFinal.Frame
public import proofs.«01_k».proof.Proof.Gen.InProj.Frame
public import proofs.«01_k».proof.Proof.Gen.MemKv.Frame
public import proofs.«01_k».proof.Proof.Gen.Ffn.Frame
public import proofs.«01_k».proof.Proof.Gen.Post.Frame
public import proofs.«01_k».proof.Proof.Gen.InProjReferenceIdeal.Run
public import proofs.«01_k».proof.Proof.Gen.MemKvReferenceIdeal.Run
public import proofs.«01_k».proof.Proof.Gen.FfnReferenceIdeal.Run
public import proofs.«01_k».proof.Proof.Gen.PostReferenceIdeal.Run
public import proofs.«01_k».proof.Proof.Gen.CombineReferenceIdeal.Run
public import proofs.«01_k».proof.Proof.Gen.CombineFinalReferenceIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both named constants are the reals the table names. -/
theorem preserves : Cert.preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

/-- A place of a matrix is its row and its column. -/
theorem place_eq {a b : ℕ} (y : (⟨2, ![a, b]⟩ : Shape).Idx) : y = ValueIdx.ix2 (y 0) (y 1) := funext fun i => by
  match i with
  | ⟨0, _⟩ => rfl
  | ⟨1, _⟩ => rfl

/-- The kernel's array, row by row and lane by lane, is the reference's. -/
theorem algebraic [Cert.Pre_finite_scores.Facts] : Cert.algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  have hf : Cert.Attn.Finite (Cert.Attn.proj m c) (Cert.Attn.table m c) := Cert.Attn.finite_of_pre _ _ _ (hpre c)
  obtain ⟨e0, e1, e2⟩ := hagree c
  refine (Cert.ReferenceIdeal.Read.val_main_v101_eq m' c).trans ?_
  refine Eq.trans ?_ (Cert.Attn.final m c).symm
  rw [e0, e1, e2]
  funext y
  refine Eq.trans (congrArg _ (place_eq y)) ?_
  exact (Cert.Attn.ref_at _ _ _ _ _).trans (Cert.Attn.kernelAt_ref m hf _ _).symm

theorem frame_proj : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

theorem frame_kv : Cert.quiescent_MemKvReferenceIdeal := fun m ρ _ =>
  (θ_run Cert.MemKvReferenceIdeal.defs _ _).mono (fun r h => ⟨fun c => (h c).2, sem_eq_zero_of_no_sems (by decide) r.2⟩)
    (Cert.MemKvReferenceIdeal.Value.run (F := Ideal) m ρ)

theorem frame_ffn : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem frame_combine : Cert.quiescent_CombineReferenceIdeal := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

theorem frame_combine_final : Cert.quiescent_CombineFinalReferenceIdeal := fun m ρ _ =>
  (θ_run Cert.CombineFinalReferenceIdeal.defs _ _).mono (fun r h => ⟨fun c => (h c).2, sem_eq_zero_of_no_sems (by decide) r.2⟩)
    (Cert.CombineFinalReferenceIdeal.Value.run (F := Ideal) m ρ)

theorem frame_post : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run (F := Ideal) m ρ)

/-- The packed projection: the kernel's array is the reference's. -/
theorem algebraic_proj : Cert.algebraic_InProjIdeal_InProjReferenceIdeal := by
  intro m ρ m' ρ' _ hagree
  refine ⟨_, Cert.InProjIdeal.Value.run_blocks (F := Ideal) m ρ, ?_⟩
  refine (θ_run Cert.InProjReferenceIdeal.defs _ _).mono (fun _ h c => ⟨(h c).1.trans ?_, (h c).2⟩)
    (Cert.InProjReferenceIdeal.Value.run (F := Ideal) m' ρ')
  obtain ⟨e0, e1, e2⟩ := hagree c
  refine (Cert.InProjReferenceIdeal.Read.val_main_v14_eq _ _ _).trans ?_
  refine Eq.trans ?_ (Cert.InProj.final m c).symm
  rw [e0, e1, e2]
  funext y
  exact (congrArg _ (place_eq y)).trans (Cert.InProj.ref_at _ _ _ _ _)

/-- The memory's keys and values: the kernel's array is the reference's. -/
theorem algebraic_kv : Cert.algebraic_MemKvIdeal_MemKvReferenceIdeal := by
  intro m ρ m' ρ' _ hagree
  refine ⟨_, Cert.MemKvIdeal.Value.run_blocks (F := Ideal) m ρ, ?_⟩
  refine (θ_run Cert.MemKvReferenceIdeal.defs _ _).mono (fun _ h c => ⟨(h c).1.trans ?_, (h c).2⟩)
    (Cert.MemKvReferenceIdeal.Value.run (F := Ideal) m' ρ')
  obtain ⟨e0, e1, e2⟩ := hagree c
  refine (Cert.MemKvReferenceIdeal.Read.val_main_v14_eq _ _ _).trans ?_
  refine Eq.trans ?_ (Cert.MemKv.final m c).symm
  rw [e0, e1, e2]
  funext y
  exact (congrArg _ (place_eq y)).trans (Cert.MemKv.ref_at _ _ _ _ _)

/-- The feed-forward layer: the kernel's array is the reference's. -/
theorem algebraic_ffn : Cert.algebraic_FfnIdeal_FfnReferenceIdeal := by
  intro m ρ m' ρ' _ hagree
  refine ⟨_, Cert.FfnIdeal.Value.run_blocks (F := Ideal) m ρ, ?_⟩
  refine (θ_run Cert.FfnReferenceIdeal.defs _ _).mono (fun _ h c => ⟨(h c).1.trans ?_, (h c).2⟩)
    (Cert.FfnReferenceIdeal.Value.run (F := Ideal) m' ρ')
  obtain ⟨e0, e1, e2, e3, e4⟩ := hagree c
  refine (Cert.FfnReferenceIdeal.Read.val_main_v18_eq _ _ _ _ _).trans ?_
  refine Eq.trans ?_ (Cert.Ffn.final m c).symm
  rw [e0, e1, e2, e3, e4]
  funext y
  exact (congrArg _ (place_eq y)).trans (Cert.Ffn.ref_at _ _ _ _ _ _ _)

/-- The experts' results added to the residual: the kernel's array is the reference's. -/
theorem algebraic_combine : Cert.algebraic_CombineIdeal_CombineReferenceIdeal := by
  intro m ρ m' ρ' _ hagree
  refine ⟨_, Cert.CombineIdeal.Value.run_blocks (F := Ideal) m ρ, ?_⟩
  refine (θ_run Cert.CombineReferenceIdeal.defs _ _).mono (fun _ h c => ⟨(h c).1.trans ?_, (h c).2⟩)
    (Cert.CombineReferenceIdeal.Value.run (F := Ideal) m' ρ')
  obtain ⟨e0, e1, -, e3⟩ := hagree c
  refine (Cert.CombineReferenceIdeal.Read.val_main_v14_eq _ _ _).trans ?_
  refine Eq.trans ?_ (Cert.Combine.final m c).symm
  rw [e0, e1, e3]
  funext y
  exact (congrArg _ (place_eq y)).trans (Cert.Combine.ref_at _ _ _ _ _)

/-- The same, normed with the final gain: the kernel's array is the reference's. -/
theorem algebraic_combine_final : Cert.algebraic_CombineFinalIdeal_CombineFinalReferenceIdeal := by
  intro m ρ m' ρ' _ hagree
  refine ⟨_, Cert.CombineFinalIdeal.Value.run_blocks (F := Ideal) m ρ, ?_⟩
  refine (θ_run Cert.CombineFinalReferenceIdeal.defs _ _).mono (fun _ h c => ⟨(h c).1.trans ?_, (h c).2⟩)
    (Cert.CombineFinalReferenceIdeal.Value.run (F := Ideal) m' ρ')
  obtain ⟨e0, e1, e2, e3⟩ := hagree c
  refine (Cert.CombineFinalReferenceIdeal.Read.val_main_v27_eq _ _ _ _).trans ?_
  refine Eq.trans ?_ (Cert.CombineFinal.final m c).symm
  rw [e0, e1, e2, e3]
  funext y
  exact (congrArg _ (place_eq y)).trans (Cert.CombineFinal.ref_at _ _ _ _ _ _)

/-- The output projection and the memory's attention: the kernel's array is the reference's. -/
theorem algebraic_post : Cert.algebraic_PostIdeal_PostReferenceIdeal_pre_finite_keys := by
  intro m ρ m' ρ' hpre hagree
  refine ⟨_, Cert.PostIdeal.Value.run_blocks (F := Ideal) m ρ, ?_⟩
  refine (θ_run Cert.PostReferenceIdeal.defs _ _).mono (fun _ h c => ⟨(h c).1.trans ?_, (h c).2⟩)
    (Cert.PostReferenceIdeal.Value.run (F := Ideal) m' ρ')
  obtain ⟨hg, hq, hk⟩ := Cert.Post.finite_of_pre _ _ _ _ _ _ _ _ (hpre c)
  obtain ⟨e0, e1, e2, e3, e4, e5, e6, e7⟩ := hagree c
  refine (Cert.PostReferenceIdeal.Read.val_main_v43_eq m' c).trans ?_
  refine Eq.trans ?_ (Cert.Post.final m c).symm
  rw [e0, e1, e2, e3, e4, e5, e6, e7]
  funext y
  exact (congrArg _ (place_eq y)).trans (Cert.Post.ref_at _ _ _ _ _ _ _ _ hg hq hk _ _)

theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.MemKv.Gen.facts, Cert.MemKvIdeal.Gen.facts, Cert.MemKvReferenceIdeal.Gen.facts,
    Cert.Ffn.Gen.facts, Cert.FfnIdeal.Gen.facts, Cert.FfnReferenceIdeal.Gen.facts,
    Cert.Combine.Gen.facts, Cert.CombineIdeal.Gen.facts, Cert.CombineReferenceIdeal.Gen.facts,
    Cert.CombineFinal.Gen.facts, Cert.CombineFinalIdeal.Gen.facts, Cert.CombineFinalReferenceIdeal.Gen.facts,
    Cert.Post.Gen.facts, Cert.PostIdeal.Gen.facts, Cert.PostReferenceIdeal.Gen.facts, Cert.Attn.pre_facts, Cert.Pre_finite_keys.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.InProj.Gen.frame m ρ, fun m ρ _ => Cert.InProjIdeal.Gen.frame m ρ, frame_proj,
    fun m ρ _ => Cert.MemKv.Gen.frame m ρ, fun m ρ _ => Cert.MemKvIdeal.Gen.frame m ρ, frame_kv,
    fun m ρ _ => Cert.Ffn.Gen.frame m ρ, fun m ρ _ => Cert.FfnIdeal.Gen.frame m ρ, frame_ffn,
    fun m ρ _ => Cert.Combine.Gen.frame m ρ, fun m ρ _ => Cert.CombineIdeal.Gen.frame m ρ, frame_combine,
    fun m ρ _ => Cert.CombineFinal.Gen.frame m ρ, fun m ρ _ => Cert.CombineFinalIdeal.Gen.frame m ρ, frame_combine_final,
    fun m ρ _ => Cert.Post.Gen.frame m ρ, fun m ρ _ => Cert.PostIdeal.Gen.frame m ρ, fun m ρ _ => Cert.PostIdeal.Gen.frame m ρ,
    frame_post, fun m ρ _ => frame_post m ρ trivial,
    preserves,
    haveI := Cert.Attn.pre_facts
    algebraic,
    trivial, algebraic_proj, trivial, algebraic_kv, trivial, algebraic_ffn,
    trivial, algebraic_combine, trivial, algebraic_combine_final, trivial, algebraic_post⟩

end Cert.Proof

end
